-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ten_nearest_apart [hPre_ten_nearest_apart : Cert.Pre_ten_nearest_apart.Facts] (m : (ℓ : Loc Cert.KernelIdeal.nD Cert.KernelIdeal.τ Cert.KernelIdeal.sig) → Buf (Elt Ideal) ℓ) : Prop :=
  ∀ c : Dev Cert.KernelIdeal.nD,
    (Cert.Pre_ten_nearest_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_ten_nearest_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_ten_nearest_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_ten_nearest_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_ten_nearest_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_ten_nearest_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 = (fun _ => 1#1)
    ∧ (Cert.Pre_ten_nearest_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.1 = (fun _ => 1#1)
    ∧ (Cert.Pre_ten_nearest_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.1 = (fun _ => 1#1)
    ∧ (Cert.Pre_ten_nearest_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.1 = (fun _ => 1#1)
    ∧ (Cert.Pre_ten_nearest_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.1 = (fun _ => 1#1)
    ∧ (Cert.Pre_ten_nearest_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.2.1 = (fun _ => 1#1)
    ∧ (Cert.Pre_ten_nearest_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.2.2.1 = (fun _ => 1#1)
    ∧ (Cert.Pre_ten_nearest_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ten_nearest_apart [hPre_ten_nearest_apart : Cert.Pre_ten_nearest_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ten_nearest_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_ten_nearest_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_ten_nearest_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_ten_nearest_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_ten_nearest_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_ten_nearest_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.1 = (fun _ => 1#1)
    ∧ (Cert.Pre_ten_nearest_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.1 = (fun _ => 1#1)
    ∧ (Cert.Pre_ten_nearest_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.1 = (fun _ => 1#1)
    ∧ (Cert.Pre_ten_nearest_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.1 = (fun _ => 1#1)
    ∧ (Cert.Pre_ten_nearest_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.1 = (fun _ => 1#1)
    ∧ (Cert.Pre_ten_nearest_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.2.1 = (fun _ => 1#1)
    ∧ (Cert.Pre_ten_nearest_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.2.2.1 = (fun _ => 1#1)
    ∧ (Cert.Pre_ten_nearest_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_ten_nearest_apart [hKernelIdeal : Cert.KernelIdeal.Facts] [hPre_ten_nearest_apart : Cert.Pre_ten_nearest_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ten_nearest_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_ten_nearest_apart [hReferenceIdeal : Cert.ReferenceIdeal.Facts] [hPre_ten_nearest_apart : Cert.Pre_ten_nearest_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ten_nearest_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_ten_nearest_apart [hKernelIdeal : Cert.KernelIdeal.Facts] [hReferenceIdeal : Cert.ReferenceIdeal.Facts] [hPre_ten_nearest_apart : Cert.Pre_ten_nearest_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ten_nearest_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_ten_nearest_apart : Cert.Pre_ten_nearest_apart.Facts),
    quiescent_Kernel (hKernel := hKernel)
    ∧ quiescent_KernelIdeal (hKernelIdeal := hKernelIdeal)
    ∧ quiescent_KernelIdeal_pre_ten_nearest_apart (hKernelIdeal := hKernelIdeal) (hPre_ten_nearest_apart := hPre_ten_nearest_apart)
    ∧ quiescent_ReferenceIdeal (hReferenceIdeal := hReferenceIdeal)
    ∧ quiescent_ReferenceIdeal_pre_ten_nearest_apart (hReferenceIdeal := hReferenceIdeal) (hPre_ten_nearest_apart := hPre_ten_nearest_apart)
    ∧ preserves_Kernel_KernelIdeal
    ∧ algebraic_KernelIdeal_ReferenceIdeal_pre_ten_nearest_apart (hKernelIdeal := hKernelIdeal) (hReferenceIdeal := hReferenceIdeal) (hPre_ten_nearest_apart := hPre_ten_nearest_apart)
-- ==== Pre_ten_nearest_apart.lean ====
abbrev S8x2048x3 : Shape := ⟨3, ![8, 2048, 3]⟩
abbrev S20x13 : Shape := ⟨2, ![20, 13]⟩
abbrev S20 : Shape := ⟨1, ![20]⟩
abbrev S100x20 : Shape := ⟨2, ![100, 20]⟩
abbrev S100 : Shape := ⟨1, ![100]⟩
abbrev S100x100 : Shape := ⟨2, ![100, 100]⟩
abbrev S20x200 : Shape := ⟨2, ![20, 200]⟩
abbrev S10x20 : Shape := ⟨2, ![10, 20]⟩
abbrev S10 : Shape := ⟨1, ![10]⟩
abbrev S2x10 : Shape := ⟨2, ![2, 10]⟩
abbrev S2 : Shape := ⟨1, ![2]⟩
abbrev S8x3x2048 : Shape := ⟨3, ![8, 3, 2048]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S8x2048x10 : Shape := ⟨3, ![8, 2048, 10]⟩
abbrev S8x2048x9 : Shape := ⟨3, ![8, 2048, 9]⟩

class Facts : Prop where
  transposes_S8x2048x3_S8x3x2048_0_2_1 : S8x2048x3.Transposes [0, 2, 1] S8x3x2048
  bcast_S_S8x2048x2048 : S_.BroadcastsInDim S8x2048x2048 (![] : Fin 0 → Fin S8x2048x2048.rank)
  reducesTo_S8x2048x3_S8x2048_d2 : S8x2048x3.ReducesTo [2] S8x2048
  h_S_ : 0 < S_.numel
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  sliceFits_S8x2048x2048_S8x2048x10 : S8x2048x2048.Slices (fun _ => 0) S8x2048x10
  slices_S8x2048x10_S8x2048x9_0_0_1 : S8x2048x10.Slices ![0, 0, 1] S8x2048x9
  slices_S8x2048x10_S8x2048x9_0_0_0 : S8x2048x10.Slices ![0, 0, 0] S8x2048x9
  bcast_S_S20x13 : S_.BroadcastsInDim S20x13 (![] : Fin 0 → Fin S20x13.rank)
  bcast_S_S20 : S_.BroadcastsInDim S20 (![] : Fin 0 → Fin S20.rank)
  bcast_S_S100x20 : S_.BroadcastsInDim S100x20 (![] : Fin 0 → Fin S100x20.rank)
  bcast_S_S100 : S_.BroadcastsInDim S100 (![] : Fin 0 → Fin S100.rank)
  bcast_S_S100x100 : S_.BroadcastsInDim S100x100 (![] : Fin 0 → Fin S100x100.rank)
  bcast_S_S20x200 : S_.BroadcastsInDim S20x200 (![] : Fin 0 → Fin S20x200.rank)
  bcast_S_S10x20 : S_.BroadcastsInDim S10x20 (![] : Fin 0 → Fin S10x20.rank)
  bcast_S_S10 : S_.BroadcastsInDim S10 (![] : Fin 0 → Fin S10.rank)
  bcast_S_S2x10 : S_.BroadcastsInDim S2x10 (![] : Fin 0 → Fin S2x10.rank)
  bcast_S_S2 : S_.BroadcastsInDim S2 (![] : Fin 0 → Fin S2.rank)
  dot_S8x2048x3_S8x3x2048_S8x2048x2048_2_1_1_2_0_0_wf : DotDims.WF S8x2048x3 S8x3x2048 S8x2048x2048 [2] [1] [1] [2] [0] [0]

variable [Facts]

def dot_S8x2048x3_S8x3x2048_S8x2048x2048_2_1_1_2_0_0 : DotDims S8x2048x3 S8x3x2048 S8x2048x2048 where
  lhsContracting := [2]
  rhsContracting := [1]
  lhsNonContracting := [1]
  rhsNonContracting := [2]
  lhsBatch := [0]
  rhsBatch := [0]
  wf := dot_S8x2048x3_S8x3x2048_S8x2048x2048_2_1_1_2_0_0_wf
def fn_part2 {F : FTy → Type} [FloatOps F] (main_arg8 : FVec F S20 .f32) (main_arg9 : FVec F S10x20 .f32) (main_arg10 : FVec F S10 .f32) (main_arg11 : FVec F S2x10 .f32) (main_arg12 : FVec F S2 .f32) (main_v17 : IVec S8x2048x9 1) (main_v20 : IVec S20x13 1) (main_v23 : IVec S20 1) (main_v26 : IVec S100x20 1) (main_v29 : IVec S100 1) (main_v32 : IVec S100x100 1) (main_v35 : IVec S100 1) (main_v36 : FVec F S20x200 .f32) : IVec S8x2048x9 1 × IVec S20x13 1 × IVec S20 1 × IVec S100x20 1 × IVec S100 1 × IVec S100x100 1 × IVec S100 1 × IVec S20x200 1 × IVec S20 1 × IVec S10x20 1 × IVec S10 1 × IVec S2x10 1 × IVec S2 1 :=
  let main_cst_8 : FVec F S_ .f32 := constant S_ .f32 0x7F800000#32
  let main_v37 : FVec F S20x200 .f32 := broadcastInDim S20x200 ![] bcast_S_S20x200 main_cst_8
  let main_v38 : IVec S20x200 1 := cmpf .olt main_v36 main_v37
  let main_v39 : FVec F S20 .f32 := Host.absf main_arg8
  let main_cst_9 : FVec F S_ .f32 := constant S_ .f32 0x7F800000#32
  let main_v40 : FVec F S20 .f32 := broadcastInDim S20 ![] bcast_S_S20 main_cst_9
  let main_v41 : IVec S20 1 := cmpf .olt main_v39 main_v40
  let main_v42 : FVec F S10x20 .f32 := Host.absf main_arg9
  let main_cst_10 : FVec F S_ .f32 := constant S_ .f32 0x7F800000#32
  let main_v43 : FVec F S10x20 .f32 := broadcastInDim S10x20 ![] bcast_S_S10x20 main_cst_10
  let main_v44 : IVec S10x20 1 := cmpf .olt main_v42 main_v43
  let main_v45 : FVec F S10 .f32 := Host.absf main_arg10
  let main_cst_11 : FVec F S_ .f32 := constant S_ .f32 0x7F800000#32
  let main_v46 : FVec F S10 .f32 := broadcastInDim S10 ![] bcast_S_S10 main_cst_11
  let main_v47 : IVec S10 1 := cmpf .olt main_v45 main_v46
  let main_v48 : FVec F S2x10 .f32 := Host.absf main_arg11
  let main_cst_12 : FVec F S_ .f32 := constant S_ .f32 0x7F800000#32
  let main_v49 : FVec F S2x10 .f32 := broadcastInDim S2x10 ![] bcast_S_S2x10 main_cst_12
  let main_v50 : IVec S2x10 1 := cmpf .olt main_v48 main_v49
  let main_v51 : FVec F S2 .f32 := Host.absf main_arg12
  let main_cst_13 : FVec F S_ .f32 := constant S_ .f32 0x7F800000#32
  let main_v52 : FVec F S2 .f32 := broadcastInDim S2 ![] bcast_S_S2 main_cst_13
  let main_v53 : IVec S2 1 := cmpf .olt main_v51 main_v52
  (main_v17, main_v20, main_v23, main_v26, main_v29, main_v32, main_v35, main_v38, main_v41, main_v44, main_v47, main_v50, main_v53)

def fn_part1 {F : FTy → Type} [FloatOps F] (main_arg2 : FVec F S20 .f32) (main_arg3 : FVec F S100x20 .f32) (main_arg4 : FVec F S100 .f32) (main_arg5 : FVec F S100x100 .f32) (main_arg6 : FVec F S100 .f32) (main_arg7 : FVec F S20x200 .f32) (main_arg8 : FVec F S20 .f32) (main_arg9 : FVec F S10x20 .f32) (main_arg10 : FVec F S10 .f32) (main_arg11 : FVec F S2x10 .f32) (main_arg12 : FVec F S2 .f32) (main_v17 : IVec S8x2048x9 1) (main_v18 : FVec F S20x13 .f32) : IVec S8x2048x9 1 × IVec S20x13 1 × IVec S20 1 × IVec S100x20 1 × IVec S100 1 × IVec S100x100 1 × IVec S100 1 × IVec S20x200 1 × IVec S20 1 × IVec S10x20 1 × IVec S10 1 × IVec S2x10 1 × IVec S2 1 :=
  let main_cst_2 : FVec F S_ .f32 := constant S_ .f32 0x7F800000#32
  let main_v19 : FVec F S20x13 .f32 := broadcastInDim S20x13 ![] bcast_S_S20x13 main_cst_2
  let main_v20 : IVec S20x13 1 := cmpf .olt main_v18 main_v19
  let main_v21 : FVec F S20 .f32 := Host.absf main_arg2
  let main_cst_3 : FVec F S_ .f32 := constant S_ .f32 0x7F800000#32
  let main_v22 : FVec F S20 .f32 := broadcastInDim S20 ![] bcast_S_S20 main_cst_3
  let main_v23 : IVec S20 1 := cmpf .olt main_v21 main_v22
  let main_v24 : FVec F S100x20 .f32 := Host.absf main_arg3
  let main_cst_4 : FVec F S_ .f32 := constant S_ .f32 0x7F800000#32
  let main_v25 : FVec F S100x20 .f32 := broadcastInDim S100x20 ![] bcast_S_S100x20 main_cst_4
  let main_v26 : IVec S100x20 1 := cmpf .olt main_v24 main_v25
  let main_v27 : FVec F S100 .f32 := Host.absf main_arg4
  let main_cst_5 : FVec F S_ .f32 := constant S_ .f32 0x7F800000#32
  let main_v28 : FVec F S100 .f32 := broadcastInDim S100 ![] bcast_S_S100 main_cst_5
  let main_v29 : IVec S100 1 := cmpf .olt main_v27 main_v28
  let main_v30 : FVec F S100x100 .f32 := Host.absf main_arg5
  let main_cst_6 : FVec F S_ .f32 := constant S_ .f32 0x7F800000#32
  let main_v31 : FVec F S100x100 .f32 := broadcastInDim S100x100 ![] bcast_S_S100x100 main_cst_6
  let main_v32 : IVec S100x100 1 := cmpf .olt main_v30 main_v31
  let main_v33 : FVec F S100 .f32 := Host.absf main_arg6
  let main_cst_7 : FVec F S_ .f32 := constant S_ .f32 0x7F800000#32
  let main_v34 : FVec F S100 .f32 := broadcastInDim S100 ![] bcast_S_S100 main_cst_7
  let main_v35 : IVec S100 1 := cmpf .olt main_v33 main_v34
  let main_v36 : FVec F S20x200 .f32 := Host.absf main_arg7
  fn_part2 (F := F) main_arg8 main_arg9 main_arg10 main_arg11 main_arg12 main_v17 main_v20 main_v23 main_v26 main_v29 main_v32 main_v35 main_v36

def fn {F : FTy → Type} [FloatOps F] (main_arg0 : FVec F S8x2048x3 .f32) (main_arg1 : FVec F S20x13 .f32) (main_arg2 : FVec F S20 .f32) (main_arg3 : FVec F S100x20 .f32) (main_arg4 : FVec F S100 .f32) (main_arg5 : FVec F S100x100 .f32) (main_arg6 : FVec F S100 .f32) (main_arg7 : FVec F S20x200 .f32) (main_arg8 : FVec F S20 .f32) (main_arg9 : FVec F S10x20 .f32) (main_arg10 : FVec F S10 .f32) (main_arg11 : FVec F S2x10 .f32) (main_arg12 : FVec F S2 .f32) : IVec S8x2048x9 1 × IVec S20x13 1 × IVec S20 1 × IVec S100x20 1 × IVec S100 1 × IVec S100x100 1 × IVec S100 1 × IVec S20x200 1 × IVec S20 1 × IVec S10x20 1 × IVec S10 1 × IVec S2x10 1 × IVec S2 1 :=
  let main_v0 : FVec F S8x3x2048 .f32 := (transpose S8x3x2048 [0, 2, 1] · transposes_S8x2048x3_S8x3x2048_0_2_1) main_arg0
  let main_v1 : FVec F S8x2048x2048 .f32 := (fun l r => Host.dotGeneral dot_S8x2048x3_S8x3x2048_S8x2048x2048_2_1_1_2_0_0 none l r) main_arg0 main_v0
  let main_cst : FVec F S_ .f32 := constant S_ .f32 0xC0000000#32
  let main_v2 : FVec F S8x2048x2048 .f32 := broadcastInDim S8x2048x2048 ![] bcast_S_S8x2048x2048 main_cst
  let main_v3 : FVec F S8x2048x2048 .f32 := mulf main_v2 main_v1
  let main_v4 : FVec F S8x2048x3 .f32 := mulf main_arg0 main_arg0
  let main_cst_0 : FVec F S_ .f32 := constant S_ .f32 0x00000000#32
  let main_v5 : FVec F S8x2048 .f32 := (fun x v => Host.reduceAdd x v reducesTo_S8x2048x3_S8x2048_d2 h_S_) main_v4 main_cst_0
  let main_v6 : FVec F S8x2048x1 .f32 := broadcastInDim S8x2048x1 ![0, 1] bcast_S8x2048_S8x2048x1_0_1 main_v5
  let main_v7 : FVec F S8x2048x2048 .f32 := broadcastInDim S8x2048x2048 ![0, 1, 2] bcast_S8x2048x1_S8x2048x2048_0_1_2 main_v6
  let main_v8 : FVec F S8x2048x2048 .f32 := addf main_v3 main_v7
  let main_v9 : FVec F S8x2048x3 .f32 := mulf main_arg0 main_arg0
  let main_cst_1 : FVec F S_ .f32 := constant S_ .f32 0x00000000#32
  let main_v10 : FVec F S8x2048 .f32 := (fun x v => Host.reduceAdd x v reducesTo_S8x2048x3_S8x2048_d2 h_S_) main_v9 main_cst_1
  let main_v11 : FVec F S8x1x2048 .f32 := broadcastInDim S8x1x2048 ![0, 2] bcast_S8x2048_S8x1x2048_0_2 main_v10
  let main_v12 : FVec F S8x2048x2048 .f32 := broadcastInDim S8x2048x2048 ![0, 1, 2] bcast_S8x1x2048_S8x2048x2048_0_1_2 main_v11
  let main_v13 : FVec F S8x2048x2048 .f32 := addf main_v8 main_v12
  let main_v14 : FVec F S8x2048x2048 .f32 := Host.negf main_v13
  let main_values : FVec F S8x2048x10 .f32 := (fun x => (Host.topK S8x2048x10 2 (FloatOps.cmpfTotal .gt) x sliceFits_S8x2048x2048_S8x2048x10).1) main_v14
  let main_indices : IVec S8x2048x10 32 := (fun x => (Host.topK S8x2048x10 2 (FloatOps.cmpfTotal .gt) x sliceFits_S8x2048x2048_S8x2048x10).2) main_v14
  let main_v15 : FVec F S8x2048x9 .f32 := (extractStridedSlice S8x2048x9 ![0, 0, 1] · slices_S8x2048x10_S8x2048x9_0_0_1) main_values
  let main_v16 : FVec F S8x2048x9 .f32 := (extractStridedSlice S8x2048x9 ![0, 0, 0] · slices_S8x2048x10_S8x2048x9_0_0_0) main_values
  let main_v17 : IVec S8x2048x9 1 := cmpf .olt main_v15 main_v16
  let main_v18 : FVec F S20x13 .f32 := Host.absf main_arg1
  fn_part1 (F := F) main_arg2 main_arg3 main_arg4 main_arg5 main_arg6 main_arg7 main_arg8 main_arg9 main_arg10 main_arg11 main_arg12 main_v17 main_v18
-- ==== Kernel.lean ====
abbrev S8x2048x3 : Shape := ⟨3, ![8, 2048, 3]⟩
abbrev S20x13 : Shape := ⟨2, ![20, 13]⟩
abbrev S20 : Shape := ⟨1, ![20]⟩
abbrev S100x20 : Shape := ⟨2, ![100, 20]⟩
abbrev S100 : Shape := ⟨1, ![100]⟩
abbrev S100x100 : Shape := ⟨2, ![100, 100]⟩
abbrev S20x200 : Shape := ⟨2, ![20, 200]⟩
abbrev S10x20 : Shape := ⟨2, ![10, 20]⟩
abbrev S10 : Shape := ⟨1, ![10]⟩
abbrev S2x10 : Shape := ⟨2, ![2, 10]⟩
abbrev S2 : Shape := ⟨1, ![2]⟩
abbrev S8x3x2048 : Shape := ⟨3, ![8, 3, 2048]⟩
abbrev S13x20 : Shape := ⟨2, ![13, 20]⟩
abbrev S20x100 : Shape := ⟨2, ![20, 100]⟩
abbrev S20x10 : Shape := ⟨2, ![20, 10]⟩
abbrev S10x2 : Shape := ⟨2, ![10, 2]⟩
abbrev S1x20 : Shape := ⟨2, ![1, 20]⟩
abbrev S1x100 : Shape := ⟨2, ![1, 100]⟩
abbrev S1x10 : Shape := ⟨2, ![1, 10]⟩
abbrev S1x2 : Shape := ⟨2, ![1, 2]⟩
abbrev S8x2048x2 : Shape := ⟨3, ![8, 2048, 2]⟩
abbrev S2x2048x3 : Shape := ⟨3, ![2, 2048, 3]⟩
abbrev S2x3x2048 : Shape := ⟨3, ![2, 3, 2048]⟩
abbrev S2x2048x2 : Shape := ⟨3, ![2, 2048, 2]⟩
abbrev S2x2048x13 : Shape := ⟨3, ![2, 2048, 13]⟩
abbrev S2x2048 : Shape := ⟨2, ![2, 2048]⟩
abbrev S2x1x2048 : Shape := ⟨3, ![2, 1, 2048]⟩
abbrev S2x5x2048 : Shape := ⟨3, ![2, 5, 2048]⟩
abbrev S2x1024x3 : Shape := ⟨3, ![2, 1024, 3]⟩
abbrev S2x1024 : Shape := ⟨2, ![2, 1024]⟩
abbrev S2x1024x1 : Shape := ⟨3, ![2, 1024, 1]⟩
abbrev S2x1024x5 : Shape := ⟨3, ![2, 1024, 5]⟩
abbrev S2x1024x2048 : Shape := ⟨3, ![2, 1024, 2048]⟩
abbrev S2x1024x1024 : Shape := ⟨3, ![2, 1024, 1024]⟩
abbrev S2x1024x512 : Shape := ⟨3, ![2, 1024, 512]⟩
abbrev S2x1024x23 : Shape := ⟨3, ![2, 1024, 23]⟩
abbrev S2x1024x13 : Shape := ⟨3, ![2, 1024, 13]⟩
abbrev S1x2048x13 : Shape := ⟨3, ![1, 2048, 13]⟩
abbrev S2048x13 : Shape := ⟨2, ![2048, 13]⟩
abbrev S2048x20 : Shape := ⟨2, ![2048, 20]⟩
abbrev S2048x100 : Shape := ⟨2, ![2048, 100]⟩
abbrev S2048x10 : Shape := ⟨2, ![2048, 10]⟩
abbrev S2048x2 : Shape := ⟨2, ![2048, 2]⟩
abbrev S2048 : Shape := ⟨1, ![2048]⟩
abbrev S2048x1 : Shape := ⟨2, ![2048, 1]⟩
abbrev S1x2048x2 : Shape := ⟨3, ![1, 2048, 2]⟩

abbrev nBuf : Space → Nat
  | .hbm => 30
  | .vmem => 20
  | .smem => 0
  | _ => 0

abbrev bufTy : (tb : Table) → Fin (tcTables nBuf tb) → BufTy
  | .hbm, ⟨0, _⟩ => ⟨S8x2048x3, .f32⟩
  | .hbm, ⟨1, _⟩ => ⟨S20x13, .f32⟩
  | .hbm, ⟨2, _⟩ => ⟨S20, .f32⟩
  | .hbm, ⟨3, _⟩ => ⟨S100x20, .f32⟩
  | .hbm, ⟨4, _⟩ => ⟨S100, .f32⟩
  | .hbm, ⟨5, _⟩ => ⟨S100x100, .f32⟩
  | .hbm, ⟨6, _⟩ => ⟨S100, .f32⟩
  | .hbm, ⟨7, _⟩ => ⟨S20x200, .f32⟩
  | .hbm, ⟨8, _⟩ => ⟨S20, .f32⟩
  | .hbm, ⟨9, _⟩ => ⟨S10x20, .f32⟩
  | .hbm, ⟨10, _⟩ => ⟨S10, .f32⟩
  | .hbm, ⟨11, _⟩ => ⟨S2x10, .f32⟩
  | .hbm, ⟨12, _⟩ => ⟨S2, .f32⟩
  | .hbm, ⟨13, _⟩ => ⟨S8x3x2048, .f32⟩
  | .hbm, ⟨14, _⟩ => ⟨S13x20, .f32⟩
  | .hbm, ⟨15, _⟩ => ⟨S20x100, .f32⟩
  | .hbm, ⟨16, _⟩ => ⟨S100x100, .f32⟩
  | .hbm, ⟨17, _⟩ => ⟨S20x100, .f32⟩
  | .hbm, ⟨18, _⟩ => ⟨S100x20, .f32⟩
  | .hbm, ⟨19, _⟩ => ⟨S20x100, .f32⟩
  | .hbm, ⟨20, _⟩ => ⟨S100x20, .f32⟩
  | .hbm, ⟨21, _⟩ => ⟨S20x10, .f32⟩
  | .hbm, ⟨22, _⟩ => ⟨S10x2, .f32⟩
  | .hbm, ⟨23, _⟩ => ⟨S1x20, .f32⟩
  | .hbm, ⟨24, _⟩ => ⟨S1x100, .f32⟩
  | .hbm, ⟨25, _⟩ => ⟨S1x100, .f32⟩
  | .hbm, ⟨26, _⟩ => ⟨S1x20, .f32⟩
  | .hbm, ⟨27, _⟩ => ⟨S1x10, .f32⟩
  | .hbm, ⟨28, _⟩ => ⟨S1x2, .f32⟩
  | .hbm, ⟨29, _⟩ => ⟨S8x2048x2, .f32⟩
  | .local _ .vmem, ⟨0, _⟩ => ⟨S2x2048x3, .f32⟩
  | .local _ .vmem, ⟨1, _⟩ => ⟨S2x2048x3, .f32⟩
  | .local _ .vmem, ⟨2, _⟩ => ⟨S2x3x2048, .f32⟩
  | .local _ .vmem, ⟨3, _⟩ => ⟨S2x3x2048, .f32⟩
  | .local _ .vmem, ⟨4, _⟩ => ⟨S13x20, .f32⟩
  | .local _ .vmem, ⟨5, _⟩ => ⟨S1x20, .f32⟩
  | .local _ .vmem, ⟨6, _⟩ => ⟨S20x100, .f32⟩
  | .local _ .vmem, ⟨7, _⟩ => ⟨S1x100, .f32⟩
  | .local _ .vmem, ⟨8, _⟩ => ⟨S100x100, .f32⟩
  | .local _ .vmem, ⟨9, _⟩ => ⟨S1x100, .f32⟩
  | .local _ .vmem, ⟨10, _⟩ => ⟨S100x20, .f32⟩
  | .local _ .vmem, ⟨11, _⟩ => ⟨S100x20, .f32⟩
  | .local _ .vmem, ⟨12, _⟩ => ⟨S1x20, .f32⟩
  | .local _ .vmem, ⟨13, _⟩ => ⟨S20x10, .f32⟩
  | .local _ .vmem, ⟨14, _⟩ => ⟨S1x10, .f32⟩
  | .local _ .vmem, ⟨15, _⟩ => ⟨S10x2, .f32⟩
  | .local _ .vmem, ⟨16, _⟩ => ⟨S1x2, .f32⟩
  | .local _ .vmem, ⟨17, _⟩ => ⟨S2x2048x2, .f32⟩
  | .local _ .vmem, ⟨18, _⟩ => ⟨S2x2048x2, .f32⟩
  | .local _ .vmem, ⟨19, _⟩ => ⟨S2x2048x13, .f32⟩
  | _, _ => ⟨S8x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S13x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S20x100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x100 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S100x100 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x100 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S100x20 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S100x20 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x20 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S20x10 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x10 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S10x2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S2x2048x2 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S8x2048x3 : Shape := ⟨3, ![8, 2048, 3]⟩
abbrev S20x13 : Shape := ⟨2, ![20, 13]⟩
abbrev S20 : Shape := ⟨1, ![20]⟩
abbrev S100x20 : Shape := ⟨2, ![100, 20]⟩
abbrev S100 : Shape := ⟨1, ![100]⟩
abbrev S100x100 : Shape := ⟨2, ![100, 100]⟩
abbrev S20x200 : Shape := ⟨2, ![20, 200]⟩
abbrev S10x20 : Shape := ⟨2, ![10, 20]⟩
abbrev S10 : Shape := ⟨1, ![10]⟩
abbrev S2x10 : Shape := ⟨2, ![2, 10]⟩
abbrev S2 : Shape := ⟨1, ![2]⟩
abbrev S8x3x2048 : Shape := ⟨3, ![8, 3, 2048]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S8x2048x10 : Shape := ⟨3, ![8, 2048, 10]⟩
abbrev S8x2048x13 : Shape := ⟨3, ![8, 2048, 13]⟩
abbrev S8x13x2048 : Shape := ⟨3, ![8, 13, 2048]⟩
abbrev S8x2048x20 : Shape := ⟨3, ![8, 2048, 20]⟩
abbrev S8x20x2048 : Shape := ⟨3, ![8, 20, 2048]⟩
abbrev S1x20x1 : Shape := ⟨3, ![1, 20, 1]⟩
abbrev S8x2048x100 : Shape := ⟨3, ![8, 2048, 100]⟩
abbrev S8x100x2048 : Shape := ⟨3, ![8, 100, 2048]⟩
abbrev S1x100x1 : Shape := ⟨3, ![1, 100, 1]⟩
abbrev S8x100 : Shape := ⟨2, ![8, 100]⟩
abbrev S8x100x1 : Shape := ⟨3, ![8, 100, 1]⟩
abbrev S1x8x1x100x1x1 : Shape := ⟨6, ![1, 8, 1, 100, 1, 1]⟩
abbrev S1x8x1x100x2048x1 : Shape := ⟨6, ![1, 8, 1, 100, 2048, 1]⟩
abbrev S8x200x2048 : Shape := ⟨3, ![8, 200, 2048]⟩
abbrev S8x10x2048 : Shape := ⟨3, ![8, 10, 2048]⟩
abbrev S1x10x1 : Shape := ⟨3, ![1, 10, 1]⟩
abbrev S8x2048x2 : Shape := ⟨3, ![8, 2048, 2]⟩
abbrev S8x2x2048 : Shape := ⟨3, ![8, 2, 2048]⟩
abbrev S1x2x1 : Shape := ⟨3, ![1, 2, 1]⟩

abbrev nBuf : Space → Nat
  | .hbm => 107
  | .vmem => 0
  | .smem => 0
  | _ => 0

abbrev bufTy : (tb : Table) → Fin (tcTables nBuf tb) → BufTy
  | .hbm, ⟨0, _⟩ => ⟨S8x2048x3, .f32⟩
  | .hbm, ⟨1, _⟩ => ⟨S20x13, .f32⟩
  | .hbm, ⟨2, _⟩ => ⟨S20, .f32⟩
  | .hbm, ⟨3, _⟩ => ⟨S100x20, .f32⟩
  | .hbm, ⟨4, _⟩ => ⟨S100, .f32⟩
  | .hbm, ⟨5, _⟩ => ⟨S100x100, .f32⟩
  | .hbm, ⟨6, _⟩ => ⟨S100, .f32⟩
  | .hbm, ⟨7, _⟩ => ⟨S20x200, .f32⟩
  | .hbm, ⟨8, _⟩ => ⟨S20, .f32⟩
  | .hbm, ⟨9, _⟩ => ⟨S10x20, .f32⟩
  | .hbm, ⟨10, _⟩ => ⟨S10, .f32⟩
  | .hbm, ⟨11, _⟩ => ⟨S2x10, .f32⟩
  | .hbm, ⟨12, _⟩ => ⟨S2, .f32⟩
  | .hbm, ⟨13, _⟩ => ⟨S8x3x2048, .f32⟩
  | .hbm, ⟨14, _⟩ => ⟨S8x2048x2048, .f32⟩
  | .hbm, ⟨15, _⟩ => ⟨S_, .f32⟩
  | .hbm, ⟨16, _⟩ => ⟨S8x2048x2048, .f32⟩
  | .hbm, ⟨17, _⟩ => ⟨S8x2048x2048, .f32⟩
  | .hbm, ⟨18, _⟩ => ⟨S8x2048x3, .f32⟩
  | .hbm, ⟨19, _⟩ => ⟨S_, .f32⟩
  | .hbm, ⟨20, _⟩ => ⟨S8x2048, .f32⟩
  | .hbm, ⟨21, _⟩ => ⟨S8x2048x1, .f32⟩
  | .hbm, ⟨22, _⟩ => ⟨S8x2048x2048, .f32⟩
  | .hbm, ⟨23, _⟩ => ⟨S8x2048x2048, .f32⟩
  | .hbm, ⟨24, _⟩ => ⟨S8x2048x3, .f32⟩
  | .hbm, ⟨25, _⟩ => ⟨S_, .f32⟩
  | .hbm, ⟨26, _⟩ => ⟨S8x2048, .f32⟩
  | .hbm, ⟨27, _⟩ => ⟨S8x1x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x10, .f32⟩
  | .hbm, ⟨32, _⟩ => ⟨S8x2048x10, .i32⟩
  | .hbm, ⟨33, _⟩ => ⟨S8x2048x10, .f32⟩
  | .hbm, ⟨34, _⟩ => ⟨S8x2048x13, .f32⟩
  | .hbm, ⟨35, _⟩ => ⟨S8x13x2048, .f32⟩
  | .hbm, ⟨36, _⟩ => ⟨S8x2048x20, .f32⟩
  | .hbm, ⟨37, _⟩ => ⟨S8x20x2048, .f32⟩
  | .hbm, ⟨38, _⟩ => ⟨S1x20x1, .f32⟩
  | .hbm, ⟨39, _⟩ => ⟨S8x20x2048, .f32⟩
  | .hbm, ⟨40, _⟩ => ⟨S8x20x2048, .f32⟩
  | .hbm, ⟨41, _⟩ => ⟨S_, .f32⟩
  | .hbm, ⟨42, _⟩ => ⟨S8x20x2048, .f32⟩
  | .hbm, ⟨43, _⟩ => ⟨S8x20x2048, .f32⟩
  | .hbm, ⟨44, _⟩ => ⟨S8x2048x100, .f32⟩
  | .hbm, ⟨45, _⟩ => ⟨S8x100x2048, .f32⟩
  | .hbm, ⟨46, _⟩ => ⟨S1x100x1, .f32⟩
  | .hbm, ⟨47, _⟩ => ⟨S8x100x2048, .f32⟩
  | .hbm, ⟨48, _⟩ => ⟨S8x100x2048, .f32⟩
  | .hbm, ⟨49, _⟩ => ⟨S_, .f32⟩
  | .hbm, ⟨50, _⟩ => ⟨S8x100x2048, .f32⟩
  | .hbm, ⟨51, _⟩ => ⟨S8x100x2048, .f32⟩
  | .hbm, ⟨52, _⟩ => ⟨S8x2048x100, .f32⟩
  | .hbm, ⟨53, _⟩ => ⟨S8x100x2048, .f32⟩
  | .hbm, ⟨54, _⟩ => ⟨S1x100x1, .f32⟩
  | .hbm, ⟨55, _⟩ => ⟨S8x100x2048, .f32⟩
  | .hbm, ⟨56, _⟩ => ⟨S8x100x2048, .f32⟩
  | .hbm, ⟨57, _⟩ => ⟨S_, .f32⟩
  | .hbm, ⟨58, _⟩ => ⟨S8x100x2048, .f32⟩
  | .hbm, ⟨59, _⟩ => ⟨S8x100x2048, .f32⟩
  | .hbm, ⟨60, _⟩ => ⟨S_, .f32⟩
  | .hbm, ⟨61, _⟩ => ⟨S8x100, .f32⟩
  | .hbm, ⟨62, _⟩ => ⟨S8x100x1, .f32⟩
  | .hbm, ⟨63, _⟩ => ⟨S_, .f32⟩
  | .hbm, ⟨64, _⟩ => ⟨S8x100x1, .f32⟩
  | .hbm, ⟨65, _⟩ => ⟨S8x100x1, .f32⟩
  | .hbm, ⟨66, _⟩ => ⟨S1x8x1x100x1x1, .f32⟩
  | .hbm, ⟨67, _⟩ => ⟨S1x8x1x100x2048x1, .f32⟩
  | .hbm, ⟨68, _⟩ => ⟨S8x100x2048, .f32⟩
  | .hbm, ⟨69, _⟩ => ⟨S8x200x2048, .f32⟩
  | .hbm, ⟨70, _⟩ => ⟨S8x2048x20, .f32⟩
  | .hbm, ⟨71, _⟩ => ⟨S8x20x2048, .f32⟩
  | .hbm, ⟨72, _⟩ => ⟨S1x20x1, .f32⟩
  | .hbm, ⟨73, _⟩ => ⟨S8x20x2048, .f32⟩
  | .hbm, ⟨74, _⟩ => ⟨S8x20x2048, .f32⟩
  | .hbm, ⟨75, _⟩ => ⟨S_, .f32⟩
  | .hbm, ⟨76, _⟩ => ⟨S8x20x2048, .f32⟩
  | .hbm, ⟨77, _⟩ => ⟨S8x20x2048, .f32⟩
  | .hbm, ⟨78, _⟩ => ⟨S8x2048x10, .f32⟩
  | .hbm, ⟨79, _⟩ => ⟨S8x10x2048, .f32⟩
  | .hbm, ⟨80, _⟩ => ⟨S1x10x1, .f32⟩
  | .hbm, ⟨81, _⟩ => ⟨S8x10x2048, .f32⟩
  | .hbm, ⟨82, _⟩ => ⟨S8x10x2048, .f32⟩
  | .hbm, ⟨83, _⟩ => ⟨S_, .f32⟩
  | .hbm, ⟨84, _⟩ => ⟨S8x10x2048, .f32⟩
  | .hbm, ⟨85, _⟩ => ⟨S8x10x2048, .f32⟩
  | .hbm, ⟨86, _⟩ => ⟨S8x2048x2, .f32⟩
  | .hbm, ⟨87, _⟩ => ⟨S8x2x2048, .f32⟩
  | .hbm, ⟨88, _⟩ => ⟨S1x2x1, .f32⟩
  | .hbm, ⟨89, _⟩ => ⟨S8x2x2048, .f32⟩
  | .hbm, ⟨90, _⟩ => ⟨S8x2x2048, .f32⟩
  | .hbm, ⟨91, _⟩ => ⟨S_, .f32⟩
  | .hbm, ⟨92, _⟩ => ⟨S8x2048, .f32⟩
  | .hbm, ⟨93, _⟩ => ⟨S_, .f32⟩
  | .hbm, ⟨94, _⟩ => ⟨S8x2048, .f32⟩
  | .hbm, ⟨95, _⟩ => ⟨S8x2048, .f32⟩
  | .hbm, ⟨96, _⟩ => ⟨S8x1x2048, .f32⟩
  | .hbm, ⟨97, _⟩ => ⟨S8x2x2048, .f32⟩
  | .hbm, ⟨98, _⟩ => ⟨S8x2x2048, .f32⟩
  | .hbm, ⟨99, _⟩ => ⟨S8x2x2048, .f32⟩
  | .hbm, ⟨100, _⟩ => ⟨S_, .f32⟩
  | .hbm, ⟨101, _⟩ => ⟨S8x2048, .f32⟩
  | .hbm, ⟨102, _⟩ => ⟨S8x1x2048, .f32⟩
  | .hbm, ⟨103, _⟩ => ⟨S8x1x2048, .f32⟩
  | .hbm, ⟨104, _⟩ => ⟨S8x2x2048, .f32⟩
  | .hbm, ⟨105, _⟩ => ⟨S8x2x2048, .f32⟩
  | .hbm, ⟨106, _⟩ => ⟨S8x2048x2, .f32⟩
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_values : Ref sig .tc := ⟨.hbm, 31, rfl⟩
abbrev main_indices : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_call0_cst : Ref sig .tc := ⟨.hbm, 41, rfl⟩
abbrev main_call0_v0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call1_cst : Ref sig .tc := ⟨.hbm, 49, rfl⟩
abbrev main_call1_v0 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_call2_cst : Ref sig .tc := ⟨.hbm, 57, rfl⟩
abbrev main_call2_v0 : Ref sig .tc := ⟨.hbm, 58, rfl⟩
abbrev main_v35 : Ref sig .tc := ⟨.hbm, 59, rfl⟩
abbrev main_cst_2 : Ref sig .tc := ⟨.hbm, 60, rfl⟩
abbrev main_v36 : Ref sig .tc := ⟨.hbm, 61, rfl⟩
abbrev main_v37 : Ref sig .tc := ⟨.hbm, 62, rfl⟩
abbrev main_cst_3 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call3_cst : Ref sig .tc := ⟨.hbm, 75, rfl⟩
abbrev main_call3_v0 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_call4_cst : Ref sig .tc := ⟨.hbm, 83, rfl⟩
abbrev main_call4_v0 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_call5_cst : Ref sig .tc := ⟨.hbm, 91, rfl⟩
abbrev main_call5_v0 : Ref sig .tc := ⟨.hbm, 92, rfl⟩
abbrev main_call5_cst_0 : Ref sig .tc := ⟨.hbm, 93, rfl⟩
abbrev main_call5_v1 : Ref sig .tc := ⟨.hbm, 94, rfl⟩
abbrev main_call5_v2 : Ref sig .tc := ⟨.hbm, 95, rfl⟩
abbrev main_call5_v3 : Ref sig .tc := ⟨.hbm, 96, rfl⟩
abbrev main_call5_v4 : Ref sig .tc := ⟨.hbm, 97, rfl⟩
abbrev main_call5_v5 : Ref sig .tc := ⟨.hbm, 98, rfl⟩
abbrev main_call5_v6 : Ref sig .tc := ⟨.hbm, 99, rfl⟩
abbrev main_call5_cst_1 : Ref sig .tc := ⟨.hbm, 100, rfl⟩
abbrev main_call5_v7 : Ref sig .tc := ⟨.hbm, 101, rfl⟩
abbrev main_call5_v8 : Ref sig .tc := ⟨.hbm, 102, rfl⟩
abbrev main_call5_v9 : Ref sig .tc := ⟨.hbm, 103, rfl⟩
abbrev main_call5_v10 : Ref sig .tc := ⟨.hbm, 104, rfl⟩
abbrev main_v61 : Ref sig .tc := ⟨.hbm, 105, rfl⟩
abbrev main_v62 : Ref sig .tc := ⟨.hbm, 106, rfl⟩

abbrev nD : Nat := 1
abbrev τ : Topo := Topo.v7x

variable {F : FTy → Type} [FloatOps F]
-- ==== Proof.Tile.lean ====
/-
  The selection part of one row tile of the kernel in a small vocabulary: successive strict minima of the rows of a
  block of distances, the 23 candidates, and the ten least of them beside the point's own coordinates.
-/
module

public import proofs.«01_k».proof.Proof.Gen.KernelIdeal.Skeleton
public import Idealize.ShloMosaic.PureOps.Ideal

@[expose] public section

set_option maxRecDepth 16384

noncomputable section

namespace Cert.PointNet

open Cert.KernelIdeal Cert.KernelIdeal.Gen Idealize.ShloMosaic Idealize.SL.Sem

/-- A vector of row values as a one-column block. -/
def col (v : FVec Ideal S2x1024 .f32) : FVec Ideal S2x1024x1 .f32 :=
  shapeCast S2x1024x1 v shapeCasts_S2x1024_S2x1024x1

/-- The least entry of each row of 512. -/
def red512 (d : FVec Ideal S2x1024x512 .f32) : FVec Ideal S2x1024 .f32 :=
  multiReduction .minimumf [2] S2x1024 d 0x7F800000#32 reduces_S2x1024x512_S2x1024 (.inl rfl) rfl

/-- The least entry of each row of 23. -/
def red23 (d : FVec Ideal S2x1024x23 .f32) : FVec Ideal S2x1024 .f32 :=
  multiReduction .minimumf [2] S2x1024 d 0x7F800000#32 reduces_S2x1024x23_S2x1024 (.inl rfl) rfl

/-- The least entry of each row of 512, as a column. -/
def least512 (d : FVec Ideal S2x1024x512 .f32) : FVec Ideal S2x1024x1 .f32 := col (red512 d)

/-- The least entry of each row of 23, as a column. -/
def least23 (d : FVec Ideal S2x1024x23 .f32) : FVec Ideal S2x1024x1 .f32 := col (red23 d)

/-- Where an entry of a row of 512 lies strictly above the row's value in a column. -/
def above512 (d : FVec Ideal S2x1024x512 .f32) (m : FVec Ideal S2x1024x1 .f32) : IVec S2x1024x512 1 :=
  cmpf .ogt d (broadcastTo S2x1024x512 m broadcasts_S2x1024x1_S2x1024x512)

/-- Where an entry of a row of 23 lies strictly above the row's value in a column. -/
def above23 (d : FVec Ideal S2x1024x23 .f32) (m : FVec Ideal S2x1024x1 .f32) : IVec S2x1024x23 1 :=
  cmpf .ogt d (broadcastTo S2x1024x23 m broadcasts_S2x1024x1_S2x1024x23)

/-- Infinity everywhere, rows of 512. -/
def infs512 : FVec Ideal S2x1024x512 .f32 := broadcast S2x1024x512 (Scalar.ofBits .f32 0x7F800000#32 : Ideal .f32)

/-- Infinity everywhere, rows of 23. -/
def infs23 : FVec Ideal S2x1024x23 .f32 := broadcast S2x1024x23 (Scalar.ofBits .f32 0x7F800000#32 : Ideal .f32)

/-- The least entry strictly above a column's value, in each row of 512. -/
def next512 (d : FVec Ideal S2x1024x512 .f32) (m : FVec Ideal S2x1024x1 .f32) : FVec Ideal S2x1024x1 .f32 :=
  least512 (select (above512 d m) d infs512)

/-- The least entry strictly above a column's value, in each row of 23. -/
def next23 (d : FVec Ideal S2x1024x23 .f32) (m : FVec Ideal S2x1024x1 .f32) : FVec Ideal S2x1024x1 .f32 :=
  least23 (select (above23 d m) d infs23)

/-- The `n`-th strict minimum of each row of 512. -/
def chain512 (d : FVec Ideal S2x1024x512 .f32) : ℕ → FVec Ideal S2x1024x1 .f32
  | 0 => least512 d
  | n + 1 => next512 d (chain512 d n)

/-- The `n`-th strict minimum of each row of 23. -/
def chain23 (d : FVec Ideal S2x1024x23 .f32) : ℕ → FVec Ideal S2x1024x1 .f32
  | 0 => least23 d
  | n + 1 => next23 d (chain23 d n)

/-- 23 columns side by side. -/
def cand (c0 c1 c2 c3 c4 c5 c6 c7 c8 c9 c10 c11 c12 c13 c14 c15 c16 c17 c18 c19 c20 c21 c22 : FVec Ideal S2x1024x1 .f32) : FVec Ideal S2x1024x23 .f32 :=
  concatenate S2x1024x23 2 [⟨S2x1024x1, c0⟩, ⟨S2x1024x1, c1⟩, ⟨S2x1024x1, c2⟩, ⟨S2x1024x1, c3⟩, ⟨S2x1024x1, c4⟩, ⟨S2x1024x1, c5⟩, ⟨S2x1024x1, c6⟩, ⟨S2x1024x1, c7⟩, ⟨S2x1024x1, c8⟩, ⟨S2x1024x1, c9⟩, ⟨S2x1024x1, c10⟩, ⟨S2x1024x1, c11⟩, ⟨S2x1024x1, c12⟩, ⟨S2x1024x1, c13⟩, ⟨S2x1024x1, c14⟩, ⟨S2x1024x1, c15⟩, ⟨S2x1024x1, c16⟩, ⟨S2x1024x1, c17⟩, ⟨S2x1024x1, c18⟩, ⟨S2x1024x1, c19⟩, ⟨S2x1024x1, c20⟩, ⟨S2x1024x1, c21⟩, ⟨S2x1024x1, c22⟩]
    concatenates_S2x1024x1_S2x1024x1_S2x1024x1_S2x1024x1_S2x1024x1_S2x1024x1_S2x1024x1_S2x1024x1_S2x1024x1_S2x1024x1_S2x1024x1_S2x1024x1_S2x1024x1_S2x1024x1_S2x1024x1_S2x1024x1_S2x1024x1_S2x1024x1_S2x1024x1_S2x1024x1_S2x1024x1_S2x1024x1_S2x1024x1_S2x1024x23_d2

/-- Three coordinates and ten columns side by side. -/
def feat (x : Vec Ideal S2x1024x3 .f32) (c0 c1 c2 c3 c4 c5 c6 c7 c8 c9 : FVec Ideal S2x1024x1 .f32) : FVec Ideal S2x1024x13 .f32 :=
  shapeCast S2x1024x13
    (concatenate S2x1024x13 2 [⟨S2x1024x3, x⟩, ⟨S2x1024x1, c0⟩, ⟨S2x1024x1, c1⟩, ⟨S2x1024x1, c2⟩, ⟨S2x1024x1, c3⟩, ⟨S2x1024x1, c4⟩, ⟨S2x1024x1, c5⟩, ⟨S2x1024x1, c6⟩, ⟨S2x1024x1, c7⟩, ⟨S2x1024x1, c8⟩, ⟨S2x1024x1, c9⟩]
      concatenates_S2x1024x3_S2x1024x1_S2x1024x1_S2x1024x1_S2x1024x1_S2x1024x1_S2x1024x1_S2x1024x1_S2x1024x1_S2x1024x1_S2x1024x1_S2x1024x13_d2)
    shapeCasts_S2x1024x13_S2x1024x13

/-- The candidates of each row of a block of distances: ten strict minima of the lesser of the lesser, five of the
    greater of the lesser, five of the lesser of the greater, three of the greater of the greater, where rows are halved
    into pairwise minima and maxima twice. -/
def cands (R : FVec Ideal S2x5x2048 .f32) (L : FVec Ideal S2x1024x5 .f32) : FVec Ideal S2x1024x23 .f32 :=
  cand (chain512 (k0_pay54 R L) 0) (chain512 (k0_pay54 R L) 1) (chain512 (k0_pay54 R L) 2) (chain512 (k0_pay54 R L) 3) (chain512 (k0_pay54 R L) 4) (chain512 (k0_pay54 R L) 5) (chain512 (k0_pay54 R L) 6) (chain512 (k0_pay54 R L) 7) (chain512 (k0_pay54 R L) 8) (chain512 (k0_pay54 R L) 9) (chain512 (k0_pay55 R L) 0) (chain512 (k0_pay55 R L) 1) (chain512 (k0_pay55 R L) 2) (chain512 (k0_pay55 R L) 3) (chain512 (k0_pay55 R L) 4) (chain512 (k0_pay32 (k0_pay51 R L)) 0) (chain512 (k0_pay32 (k0_pay51 R L)) 1) (chain512 (k0_pay32 (k0_pay51 R L)) 2) (chain512 (k0_pay32 (k0_pay51 R L)) 3) (chain512 (k0_pay32 (k0_pay51 R L)) 4) (chain512 (k0_pay33 (k0_pay51 R L)) 0) (chain512 (k0_pay33 (k0_pay51 R L)) 1) (chain512 (k0_pay33 (k0_pay51 R L)) 2)

/-- The features one row tile stores: its points and the ten strict minima of their candidates. -/
def tile (R : FVec Ideal S2x5x2048 .f32) (x : Vec Ideal S2x1024x3 .f32) : FVec Ideal S2x1024x13 .f32 :=
  feat x (chain23 (cands R (k0_pay46 x)) 0) (chain23 (cands R (k0_pay46 x)) 1) (chain23 (cands R (k0_pay46 x)) 2) (chain23 (cands R (k0_pay46 x)) 3) (chain23 (cands R (k0_pay46 x)) 4) (chain23 (cands R (k0_pay46 x)) 5) (chain23 (cands R (k0_pay46 x)) 6) (chain23 (cands R (k0_pay46 x)) 7) (chain23 (cands R (k0_pay46 x)) 8) (chain23 (cands R (k0_pay46 x)) 9)

/-! Each intermediate value of the tile in this vocabulary; all hold by unfolding. -/

theorem pay4_eq (v0 : Vec Ideal S2x3x2048 .f32) (v9 : Vec Ideal S2x1024x3 .f32) :
    k0_pay4 v0 v9 = k0_pay48 (k0_pay2 v0) (k0_pay46 v9) := rfl

theorem pay5_eq (v0 : Vec Ideal S2x3x2048 .f32) (v9 : Vec Ideal S2x1024x3 .f32) :
    k0_pay5 v0 v9 = k0_pay49 (k0_pay2 v0) (k0_pay46 v9) := rfl

theorem pay6_eq (v0 : Vec Ideal S2x3x2048 .f32) (v9 : Vec Ideal S2x1024x3 .f32) :
    k0_pay6 v0 v9 = k0_pay50 (k0_pay2 v0) (k0_pay46 v9) := rfl

theorem pay7_eq (v0 : Vec Ideal S2x3x2048 .f32) (v9 : Vec Ideal S2x1024x3 .f32) :
    k0_pay7 v0 v9 = k0_pay51 (k0_pay2 v0) (k0_pay46 v9) := rfl

theorem pay8_eq (v0 : Vec Ideal S2x3x2048 .f32) (v9 : Vec Ideal S2x1024x3 .f32) :
    k0_pay8 v0 v9 = k0_pay52 (k0_pay2 v0) (k0_pay46 v9) := rfl

theorem pay9_eq (v0 : Vec Ideal S2x3x2048 .f32) (v9 : Vec Ideal S2x1024x3 .f32) :
    k0_pay9 v0 v9 = k0_pay53 (k0_pay2 v0) (k0_pay46 v9) := rfl

theorem pay10_eq (v0 : Vec Ideal S2x3x2048 .f32) (v9 : Vec Ideal S2x1024x3 .f32) :
    k0_pay10 v0 v9 = k0_pay54 (k0_pay2 v0) (k0_pay46 v9) := rfl

theorem pay11_eq (v0 : Vec Ideal S2x3x2048 .f32) (v9 : Vec Ideal S2x1024x3 .f32) :
    k0_pay11 v0 v9 = k0_pay55 (k0_pay2 v0) (k0_pay46 v9) := rfl

theorem pay12_eq (v0 : Vec Ideal S2x3x2048 .f32) (v9 : Vec Ideal S2x1024x3 .f32) :
    k0_pay12 v0 v9 = least512 (k0_pay10 (F := Ideal) v0 v9) := rfl

theorem pay13_eq (v0 : Vec Ideal S2x3x2048 .f32) (v9 : Vec Ideal S2x1024x3 .f32) :
    k0_pay13 v0 v9 = next512 (k0_pay10 (F := Ideal) v0 v9) (k0_pay12 (F := Ideal) v0 v9) := rfl

theorem pay14_eq (v0 : Vec Ideal S2x3x2048 .f32) (v9 : Vec Ideal S2x1024x3 .f32) :
    k0_pay14 v0 v9 = next512 (k0_pay10 (F := Ideal) v0 v9) (k0_pay13 (F := Ideal) v0 v9) := rfl

theorem pay15_eq (v0 : Vec Ideal S2x3x2048 .f32) (v9 : Vec Ideal S2x1024x3 .f32) :
    k0_pay15 v0 v9 = above512 (k0_pay10 (F := Ideal) v0 v9) (k0_pay14 (F := Ideal) v0 v9) := rfl

theorem pay16_eq  :
    k0_pay16 (F := Ideal) = infs512 := rfl

theorem pay17_eq (v22 : FVec Ideal S2x1024x512 .f32) (v39 : IVec S2x1024x512 1) (v40 : FVec Ideal S2x1024x512 .f32) :
    k0_pay17 v22 v39 v40 = least512 (select v39 v22 v40) := rfl

theorem pay18_eq (v22 : FVec Ideal S2x1024x512 .f32) (v39 : IVec S2x1024x512 1) (v40 : FVec Ideal S2x1024x512 .f32) :
    k0_pay18 v22 v39 v40 = next512 v22 (k0_pay17 (F := Ideal) v22 v39 v40) := rfl

theorem pay19_eq (v22 : FVec Ideal S2x1024x512 .f32) (v39 : IVec S2x1024x512 1) (v40 : FVec Ideal S2x1024x512 .f32) :
    k0_pay19 v22 v39 v40 = next512 v22 (k0_pay18 (F := Ideal) v22 v39 v40) := rfl

theorem pay20_eq (v22 : FVec Ideal S2x1024x512 .f32) (v39 : IVec S2x1024x512 1) (v40 : FVec Ideal S2x1024x512 .f32) :
    k0_pay20 v22 v39 v40 = next512 v22 (k0_pay19 (F := Ideal) v22 v39 v40) := rfl

theorem pay21_eq (v22 : FVec Ideal S2x1024x512 .f32) (v39 : IVec S2x1024x512 1) (v40 : FVec Ideal S2x1024x512 .f32) :
    k0_pay21 v22 v39 v40 = next512 v22 (k0_pay20 (F := Ideal) v22 v39 v40) := rfl

theorem pay22_eq (v22 : FVec Ideal S2x1024x512 .f32) (v39 : IVec S2x1024x512 1) (v40 : FVec Ideal S2x1024x512 .f32) :
    k0_pay22 v22 v39 v40 = next512 v22 (k0_pay21 (F := Ideal) v22 v39 v40) := rfl

theorem pay23_eq (v22 : FVec Ideal S2x1024x512 .f32) (v39 : IVec S2x1024x512 1) (v40 : FVec Ideal S2x1024x512 .f32) :
    k0_pay23 v22 v39 v40 = next512 v22 (k0_pay22 (F := Ideal) v22 v39 v40) := rfl

theorem pay24_eq (v23 : FVec Ideal S2x1024x512 .f32) :
    k0_pay24 v23 = least512 v23 := rfl

theorem pay25_eq (v23 : FVec Ideal S2x1024x512 .f32) :
    k0_pay25 v23 = select (above512 v23 (k0_pay24 (F := Ideal) v23)) v23 infs512 := rfl

theorem pay26_eq (v85 : FVec Ideal S2x1024x512 .f32) :
    k0_pay26 v85 = least512 v85 := rfl

theorem pay27_eq (v23 : FVec Ideal S2x1024x512 .f32) (v85 : FVec Ideal S2x1024x512 .f32) :
    k0_pay27 v23 v85 = next512 v23 (k0_pay26 (F := Ideal) v85) := rfl

theorem pay28_eq (v23 : FVec Ideal S2x1024x512 .f32) (v85 : FVec Ideal S2x1024x512 .f32) :
    k0_pay28 v23 v85 = next512 v23 (k0_pay27 (F := Ideal) v23 v85) := rfl

theorem pay29_eq (v23 : FVec Ideal S2x1024x512 .f32) (v85 : FVec Ideal S2x1024x512 .f32) :
    k0_pay29 v23 v85 = next512 v23 (k0_pay28 (F := Ideal) v23 v85) := rfl

theorem pay34_eq (v19 : FVec Ideal S2x1024x1024 .f32) :
    k0_pay34 v19 = least512 (k0_pay32 (F := Ideal) v19) := rfl

theorem pay35_eq (v19 : FVec Ideal S2x1024x1024 .f32) :
    k0_pay35 v19 = next512 (k0_pay32 (F := Ideal) v19) (k0_pay34 (F := Ideal) v19) := rfl

theorem pay36_eq (v19 : FVec Ideal S2x1024x1024 .f32) :
    k0_pay36 v19 = next512 (k0_pay32 (F := Ideal) v19) (k0_pay35 (F := Ideal) v19) := rfl

theorem pay37_eq (v19 : FVec Ideal S2x1024x1024 .f32) :
    k0_pay37 v19 = next512 (k0_pay32 (F := Ideal) v19) (k0_pay36 (F := Ideal) v19) := rfl

theorem pay38_eq (v19 : FVec Ideal S2x1024x1024 .f32) :
    k0_pay38 v19 = above512 (k0_pay32 (F := Ideal) v19) (k0_pay37 (F := Ideal) v19) := rfl

theorem pay39_eq (v25 : FVec Ideal S2x1024x1 .f32) (v31 : FVec Ideal S2x1024x1 .f32) (v37 : FVec Ideal S2x1024x1 .f32) (v43 : FVec Ideal S2x1024x1 .f32) (v49 : FVec Ideal S2x1024x1 .f32) (v55 : FVec Ideal S2x1024x1 .f32) (v61 : FVec Ideal S2x1024x1 .f32) (v67 : FVec Ideal S2x1024x1 .f32) (v73 : FVec Ideal S2x1024x1 .f32) (v79 : FVec Ideal S2x1024x1 .f32) (v81 : FVec Ideal S2x1024x1 .f32) (v87 : FVec Ideal S2x1024x1 .f32) (v93 : FVec Ideal S2x1024x1 .f32) (v99 : FVec Ideal S2x1024x1 .f32) (v105 : FVec Ideal S2x1024x1 .f32) (v108 : FVec Ideal S2x1024x512 .f32) (v109 : FVec Ideal S2x1024x512 .f32) (v111 : FVec Ideal S2x1024x1 .f32) (v117 : FVec Ideal S2x1024x1 .f32) (v123 : FVec Ideal S2x1024x1 .f32) (v129 : FVec Ideal S2x1024x1 .f32) (v131 : IVec S2x1024x512 1) :
    k0_pay39 v25 v31 v37 v43 v49 v55 v61 v67 v73 v79 v81 v87 v93 v99 v105 v108 v109 v111 v117 v123 v129 v131 = cand v25 v31 v37 v43 v49 v55 v61 v67 v73 v79 v81 v87 v93 v99 v105 v111 v117 v123 v129 (least512 (select v131 v108 infs512)) (least512 v109) (next512 v109 (least512 v109)) (next512 v109 (next512 v109 (least512 v109))) := rfl

theorem pay40_eq (v25 : FVec Ideal S2x1024x1 .f32) (v31 : FVec Ideal S2x1024x1 .f32) (v37 : FVec Ideal S2x1024x1 .f32) (v43 : FVec Ideal S2x1024x1 .f32) (v49 : FVec Ideal S2x1024x1 .f32) (v55 : FVec Ideal S2x1024x1 .f32) (v61 : FVec Ideal S2x1024x1 .f32) (v67 : FVec Ideal S2x1024x1 .f32) (v73 : FVec Ideal S2x1024x1 .f32) (v79 : FVec Ideal S2x1024x1 .f32) (v81 : FVec Ideal S2x1024x1 .f32) (v87 : FVec Ideal S2x1024x1 .f32) (v93 : FVec Ideal S2x1024x1 .f32) (v99 : FVec Ideal S2x1024x1 .f32) (v105 : FVec Ideal S2x1024x1 .f32) (v108 : FVec Ideal S2x1024x512 .f32) (v109 : FVec Ideal S2x1024x512 .f32) (v111 : FVec Ideal S2x1024x1 .f32) (v117 : FVec Ideal S2x1024x1 .f32) (v123 : FVec Ideal S2x1024x1 .f32) (v129 : FVec Ideal S2x1024x1 .f32) (v131 : IVec S2x1024x512 1) :
    k0_pay40 v25 v31 v37 v43 v49 v55 v61 v67 v73 v79 v81 v87 v93 v99 v105 v108 v109 v111 v117 v123 v129 v131 = least23 (k0_pay39 (F := Ideal) v25 v31 v37 v43 v49 v55 v61 v67 v73 v79 v81 v87 v93 v99 v105 v108 v109 v111 v117 v123 v129 v131) := rfl

theorem pay41_eq (v25 : FVec Ideal S2x1024x1 .f32) (v31 : FVec Ideal S2x1024x1 .f32) (v37 : FVec Ideal S2x1024x1 .f32) (v43 : FVec Ideal S2x1024x1 .f32) (v49 : FVec Ideal S2x1024x1 .f32) (v55 : FVec Ideal S2x1024x1 .f32) (v61 : FVec Ideal S2x1024x1 .f32) (v67 : FVec Ideal S2x1024x1 .f32) (v73 : FVec Ideal S2x1024x1 .f32) (v79 : FVec Ideal S2x1024x1 .f32) (v81 : FVec Ideal S2x1024x1 .f32) (v87 : FVec Ideal S2x1024x1 .f32) (v93 : FVec Ideal S2x1024x1 .f32) (v99 : FVec Ideal S2x1024x1 .f32) (v105 : FVec Ideal S2x1024x1 .f32) (v108 : FVec Ideal S2x1024x512 .f32) (v109 : FVec Ideal S2x1024x512 .f32) (v111 : FVec Ideal S2x1024x1 .f32) (v117 : FVec Ideal S2x1024x1 .f32) (v123 : FVec Ideal S2x1024x1 .f32) (v129 : FVec Ideal S2x1024x1 .f32) (v131 : IVec S2x1024x512 1) :
    k0_pay41 v25 v31 v37 v43 v49 v55 v61 v67 v73 v79 v81 v87 v93 v99 v105 v108 v109 v111 v117 v123 v129 v131 = next23 (k0_pay39 (F := Ideal) v25 v31 v37 v43 v49 v55 v61 v67 v73 v79 v81 v87 v93 v99 v105 v108 v109 v111 v117 v123 v129 v131) (k0_pay40 (F := Ideal) v25 v31 v37 v43 v49 v55 v61 v67 v73 v79 v81 v87 v93 v99 v105 v108 v109 v111 v117 v123 v129 v131) := rfl

theorem pay42_eq (v25 : FVec Ideal S2x1024x1 .f32) (v31 : FVec Ideal S2x1024x1 .f32) (v37 : FVec Ideal S2x1024x1 .f32) (v43 : FVec Ideal S2x1024x1 .f32) (v49 : FVec Ideal S2x1024x1 .f32) (v55 : FVec Ideal S2x1024x1 .f32) (v61 : FVec Ideal S2x1024x1 .f32) (v67 : FVec Ideal S2x1024x1 .f32) (v73 : FVec Ideal S2x1024x1 .f32) (v79 : FVec Ideal S2x1024x1 .f32) (v81 : FVec Ideal S2x1024x1 .f32) (v87 : FVec Ideal S2x1024x1 .f32) (v93 : FVec Ideal S2x1024x1 .f32) (v99 : FVec Ideal S2x1024x1 .f32) (v105 : FVec Ideal S2x1024x1 .f32) (v108 : FVec Ideal S2x1024x512 .f32) (v109 : FVec Ideal S2x1024x512 .f32) (v111 : FVec Ideal S2x1024x1 .f32) (v117 : FVec Ideal S2x1024x1 .f32) (v123 : FVec Ideal S2x1024x1 .f32) (v129 : FVec Ideal S2x1024x1 .f32) (v131 : IVec S2x1024x512 1) :
    k0_pay42 v25 v31 v37 v43 v49 v55 v61 v67 v73 v79 v81 v87 v93 v99 v105 v108 v109 v111 v117 v123 v129 v131 = next23 (k0_pay39 (F := Ideal) v25 v31 v37 v43 v49 v55 v61 v67 v73 v79 v81 v87 v93 v99 v105 v108 v109 v111 v117 v123 v129 v131) (k0_pay41 (F := Ideal) v25 v31 v37 v43 v49 v55 v61 v67 v73 v79 v81 v87 v93 v99 v105 v108 v109 v111 v117 v123 v129 v131) := rfl

theorem pay43_eq (v25 : FVec Ideal S2x1024x1 .f32) (v31 : FVec Ideal S2x1024x1 .f32) (v37 : FVec Ideal S2x1024x1 .f32) (v43 : FVec Ideal S2x1024x1 .f32) (v49 : FVec Ideal S2x1024x1 .f32) (v55 : FVec Ideal S2x1024x1 .f32) (v61 : FVec Ideal S2x1024x1 .f32) (v67 : FVec Ideal S2x1024x1 .f32) (v73 : FVec Ideal S2x1024x1 .f32) (v79 : FVec Ideal S2x1024x1 .f32) (v81 : FVec Ideal S2x1024x1 .f32) (v87 : FVec Ideal S2x1024x1 .f32) (v93 : FVec Ideal S2x1024x1 .f32) (v99 : FVec Ideal S2x1024x1 .f32) (v105 : FVec Ideal S2x1024x1 .f32) (v108 : FVec Ideal S2x1024x512 .f32) (v109 : FVec Ideal S2x1024x512 .f32) (v111 : FVec Ideal S2x1024x1 .f32) (v117 : FVec Ideal S2x1024x1 .f32) (v123 : FVec Ideal S2x1024x1 .f32) (v129 : FVec Ideal S2x1024x1 .f32) (v131 : IVec S2x1024x512 1) :
    k0_pay43 v25 v31 v37 v43 v49 v55 v61 v67 v73 v79 v81 v87 v93 v99 v105 v108 v109 v111 v117 v123 v129 v131 = next23 (k0_pay39 (F := Ideal) v25 v31 v37 v43 v49 v55 v61 v67 v73 v79 v81 v87 v93 v99 v105 v108 v109 v111 v117 v123 v129 v131) (k0_pay42 (F := Ideal) v25 v31 v37 v43 v49 v55 v61 v67 v73 v79 v81 v87 v93 v99 v105 v108 v109 v111 v117 v123 v129 v131) := rfl

theorem pay44_eq (v25 : FVec Ideal S2x1024x1 .f32) (v31 : FVec Ideal S2x1024x1 .f32) (v37 : FVec Ideal S2x1024x1 .f32) (v43 : FVec Ideal S2x1024x1 .f32) (v49 : FVec Ideal S2x1024x1 .f32) (v55 : FVec Ideal S2x1024x1 .f32) (v61 : FVec Ideal S2x1024x1 .f32) (v67 : FVec Ideal S2x1024x1 .f32) (v73 : FVec Ideal S2x1024x1 .f32) (v79 : FVec Ideal S2x1024x1 .f32) (v81 : FVec Ideal S2x1024x1 .f32) (v87 : FVec Ideal S2x1024x1 .f32) (v93 : FVec Ideal S2x1024x1 .f32) (v99 : FVec Ideal S2x1024x1 .f32) (v105 : FVec Ideal S2x1024x1 .f32) (v108 : FVec Ideal S2x1024x512 .f32) (v109 : FVec Ideal S2x1024x512 .f32) (v111 : FVec Ideal S2x1024x1 .f32) (v117 : FVec Ideal S2x1024x1 .f32) (v123 : FVec Ideal S2x1024x1 .f32) (v129 : FVec Ideal S2x1024x1 .f32) (v131 : IVec S2x1024x512 1) :
    k0_pay44 v25 v31 v37 v43 v49 v55 v61 v67 v73 v79 v81 v87 v93 v99 v105 v108 v109 v111 v117 v123 v129 v131 = red23 (select (above23 (k0_pay39 (F := Ideal) v25 v31 v37 v43 v49 v55 v61 v67 v73 v79 v81 v87 v93 v99 v105 v108 v109 v111 v117 v123 v129 v131) (k0_pay43 (F := Ideal) v25 v31 v37 v43 v49 v55 v61 v67 v73 v79 v81 v87 v93 v99 v105 v108 v109 v111 v117 v123 v129 v131)) (k0_pay39 (F := Ideal) v25 v31 v37 v43 v49 v55 v61 v67 v73 v79 v81 v87 v93 v99 v105 v108 v109 v111 v117 v123 v129 v131) infs23) := rfl

theorem pay45_eq (v9 : Vec Ideal S2x1024x3 .f32) (v150 : FVec Ideal S2x1024x23 .f32) (v152 : FVec Ideal S2x1024x1 .f32) (v158 : FVec Ideal S2x1024x1 .f32) (v164 : FVec Ideal S2x1024x1 .f32) (v170 : FVec Ideal S2x1024x1 .f32) (v175 : FVec Ideal S2x1024 .f32) :
    k0_pay45 v9 v150 v152 v158 v164 v170 v175 = feat v9 v152 v158 v164 v170 (col v175) (next23 v150 (col v175)) (next23 v150 (next23 v150 (col v175))) (next23 v150 (next23 v150 (next23 v150 (col v175)))) (next23 v150 (next23 v150 (next23 v150 (next23 v150 (col v175))))) (next23 v150 (next23 v150 (next23 v150 (next23 v150 (next23 v150 (col v175)))))) := rfl

theorem pay56_eq (v8 : FVec Ideal S2x5x2048 .f32) (v216 : FVec Ideal S2x1024x5 .f32) :
    k0_pay56 v8 v216 = least512 (k0_pay54 (F := Ideal) v8 v216) := rfl

theorem pay57_eq (v8 : FVec Ideal S2x5x2048 .f32) (v216 : FVec Ideal S2x1024x5 .f32) :
    k0_pay57 v8 v216 = next512 (k0_pay54 (F := Ideal) v8 v216) (k0_pay56 (F := Ideal) v8 v216) := rfl

theorem pay58_eq (v8 : FVec Ideal S2x5x2048 .f32) (v216 : FVec Ideal S2x1024x5 .f32) :
    k0_pay58 v8 v216 = next512 (k0_pay54 (F := Ideal) v8 v216) (k0_pay57 (F := Ideal) v8 v216) := rfl

theorem pay59_eq (v8 : FVec Ideal S2x5x2048 .f32) (v216 : FVec Ideal S2x1024x5 .f32) :
    k0_pay59 v8 v216 = next512 (k0_pay54 (F := Ideal) v8 v216) (k0_pay58 (F := Ideal) v8 v216) := rfl

theorem pay60_eq (v8 : FVec Ideal S2x5x2048 .f32) (v216 : FVec Ideal S2x1024x5 .f32) :
    k0_pay60 v8 v216 = next512 (k0_pay54 (F := Ideal) v8 v216) (k0_pay59 (F := Ideal) v8 v216) := rfl

theorem pay61_eq (v8 : FVec Ideal S2x5x2048 .f32) (v216 : FVec Ideal S2x1024x5 .f32) :
    k0_pay61 v8 v216 = next512 (k0_pay54 (F := Ideal) v8 v216) (k0_pay60 (F := Ideal) v8 v216) := rfl

theorem pay62_eq (v8 : FVec Ideal S2x5x2048 .f32) (v216 : FVec Ideal S2x1024x5 .f32) :
    k0_pay62 v8 v216 = red512 (select (above512 (k0_pay54 (F := Ideal) v8 v216) (k0_pay61 (F := Ideal) v8 v216)) (k0_pay54 (F := Ideal) v8 v216) infs512) := rfl

theorem pay63_eq (v262 : FVec Ideal S2x1024 .f32) :
    k0_pay63 v262 = col v262 := rfl

theorem pay64_eq (v224 : FVec Ideal S2x1024x512 .f32) (v262 : FVec Ideal S2x1024 .f32) :
    k0_pay64 v224 v262 = next512 v224 (k0_pay63 v262) := rfl

theorem pay65_eq (v224 : FVec Ideal S2x1024x512 .f32) (v262 : FVec Ideal S2x1024 .f32) :
    k0_pay65 v224 v262 = next512 v224 (k0_pay64 (F := Ideal) v224 v262) := rfl

theorem pay66_eq (v224 : FVec Ideal S2x1024x512 .f32) (v262 : FVec Ideal S2x1024 .f32) :
    k0_pay66 v224 v262 = next512 v224 (k0_pay65 (F := Ideal) v224 v262) := rfl

theorem pay67_eq (v225 : FVec Ideal S2x1024x512 .f32) :
    k0_pay67 v225 = least512 v225 := rfl

theorem pay68_eq (v225 : FVec Ideal S2x1024x512 .f32) :
    k0_pay68 v225 = next512 v225 (k0_pay67 (F := Ideal) v225) := rfl

theorem pay69_eq (v225 : FVec Ideal S2x1024x512 .f32) :
    k0_pay69 v225 = next512 v225 (k0_pay68 (F := Ideal) v225) := rfl

theorem pay70_eq (v225 : FVec Ideal S2x1024x512 .f32) :
    k0_pay70 v225 = next512 v225 (k0_pay69 (F := Ideal) v225) := rfl

theorem pay71_eq (v225 : FVec Ideal S2x1024x512 .f32) :
    k0_pay71 v225 = next512 v225 (k0_pay70 (F := Ideal) v225) := rfl

theorem pay72_eq (v221 : FVec Ideal S2x1024x1024 .f32) (v227 : FVec Ideal S2x1024x1 .f32) (v233 : FVec Ideal S2x1024x1 .f32) (v239 : FVec Ideal S2x1024x1 .f32) (v245 : FVec Ideal S2x1024x1 .f32) (v251 : FVec Ideal S2x1024x1 .f32) (v257 : FVec Ideal S2x1024x1 .f32) (v263 : FVec Ideal S2x1024x1 .f32) (v269 : FVec Ideal S2x1024x1 .f32) (v275 : FVec Ideal S2x1024x1 .f32) (v281 : FVec Ideal S2x1024x1 .f32) (v283 : FVec Ideal S2x1024x1 .f32) (v289 : FVec Ideal S2x1024x1 .f32) (v295 : FVec Ideal S2x1024x1 .f32) (v301 : FVec Ideal S2x1024x1 .f32) (v307 : FVec Ideal S2x1024x1 .f32) :
    k0_pay72 v221 v227 v233 v239 v245 v251 v257 v263 v269 v275 v281 v283 v289 v295 v301 v307 = cand v227 v233 v239 v245 v251 v257 v263 v269 v275 v281 v283 v289 v295 v301 v307 (least512 (k0_pay32 v221)) (next512 (k0_pay32 v221) (least512 (k0_pay32 v221))) (next512 (k0_pay32 v221) (next512 (k0_pay32 v221) (least512 (k0_pay32 v221)))) (next512 (k0_pay32 v221) (next512 (k0_pay32 v221) (next512 (k0_pay32 v221) (least512 (k0_pay32 v221))))) (next512 (k0_pay32 v221) (next512 (k0_pay32 v221) (next512 (k0_pay32 v221) (next512 (k0_pay32 v221) (least512 (k0_pay32 v221)))))) (least512 (k0_pay33 v221)) (next512 (k0_pay33 v221) (least512 (k0_pay33 v221))) (next512 (k0_pay33 v221) (next512 (k0_pay33 v221) (least512 (k0_pay33 v221)))) := rfl

theorem pay73_eq (v352 : FVec Ideal S2x1024x23 .f32) :
    k0_pay73 v352 = least23 v352 := rfl

theorem pay74_eq (v352 : FVec Ideal S2x1024x23 .f32) :
    k0_pay74 v352 = next23 v352 (k0_pay73 (F := Ideal) v352) := rfl

theorem pay75_eq (v352 : FVec Ideal S2x1024x23 .f32) :
    k0_pay75 v352 = next23 v352 (k0_pay74 (F := Ideal) v352) := rfl

theorem pay76_eq (v352 : FVec Ideal S2x1024x23 .f32) :
    k0_pay76 v352 = next23 v352 (k0_pay75 (F := Ideal) v352) := rfl

theorem pay77_eq (v352 : FVec Ideal S2x1024x23 .f32) :
    k0_pay77 v352 = next23 v352 (k0_pay76 (F := Ideal) v352) := rfl

theorem pay78_eq (v352 : FVec Ideal S2x1024x23 .f32) :
    k0_pay78 v352 = next23 v352 (k0_pay77 (F := Ideal) v352) := rfl

theorem pay79_eq (v352 : FVec Ideal S2x1024x23 .f32) :
    k0_pay79 v352 = next23 v352 (k0_pay78 (F := Ideal) v352) := rfl

theorem pay80_eq (v352 : FVec Ideal S2x1024x23 .f32) :
    k0_pay80 v352 = next23 v352 (k0_pay79 (F := Ideal) v352) := rfl

theorem pay81_eq (v352 : FVec Ideal S2x1024x23 .f32) :
    k0_pay81 v352 = above23 v352 (k0_pay80 (F := Ideal) v352) := rfl

theorem pay82_eq (v211 : Vec Ideal S2x1024x3 .f32) (v352 : FVec Ideal S2x1024x23 .f32) (v354 : FVec Ideal S2x1024x1 .f32) (v360 : FVec Ideal S2x1024x1 .f32) (v366 : FVec Ideal S2x1024x1 .f32) (v372 : FVec Ideal S2x1024x1 .f32) (v378 : FVec Ideal S2x1024x1 .f32) (v384 : FVec Ideal S2x1024x1 .f32) (v390 : FVec Ideal S2x1024x1 .f32) (v396 : FVec Ideal S2x1024x1 .f32) (v398 : IVec S2x1024x23 1) :
    k0_pay82 v211 v352 v354 v360 v366 v372 v378 v384 v390 v396 v398 = feat v211 v354 v360 v366 v372 v378 v384 v390 v396 (least23 (select v398 v352 infs23)) (next23 v352 (least23 (select v398 v352 infs23))) := rfl

theorem fold_col512 (d : FVec Ideal S2x1024x512 .f32) : col (red512 d) = least512 d := rfl
theorem fold_col23 (d : FVec Ideal S2x1024x23 .f32) : col (red23 d) = least23 d := rfl
theorem fold_next512 (d : FVec Ideal S2x1024x512 .f32) (m : FVec Ideal S2x1024x1 .f32) :
    least512 (select (above512 d m) d infs512) = next512 d m := rfl
theorem fold_next23 (d : FVec Ideal S2x1024x23 .f32) (m : FVec Ideal S2x1024x1 .f32) :
    least23 (select (above23 d m) d infs23) = next23 d m := rfl
theorem fold_chain512 (d : FVec Ideal S2x1024x512 .f32) (n : ℕ) : next512 d (chain512 d n) = chain512 d (n + 1) := rfl
theorem fold_chain23 (d : FVec Ideal S2x1024x23 .f32) (n : ℕ) : next23 d (chain23 d n) = chain23 d (n + 1) := rfl
theorem fold_zero512 (d : FVec Ideal S2x1024x512 .f32) : next512 d (least512 d) = chain512 d 1 := rfl
theorem fold_zero23 (d : FVec Ideal S2x1024x23 .f32) : next23 d (least23 d) = chain23 d 1 := rfl
theorem fold_first512 (d : FVec Ideal S2x1024x512 .f32) : least512 d = chain512 d 0 := rfl
theorem fold_first23 (d : FVec Ideal S2x1024x23 .f32) : least23 d = chain23 d 0 := rfl
theorem fold_tile (R : FVec Ideal S2x5x2048 .f32) (x : Vec Ideal S2x1024x3 .f32) :
    feat x (chain23 (cands R (k0_pay46 x)) 0) (chain23 (cands R (k0_pay46 x)) 1) (chain23 (cands R (k0_pay46 x)) 2) (chain23 (cands R (k0_pay46 x)) 3) (chain23 (cands R (k0_pay46 x)) 4) (chain23 (cands R (k0_pay46 x)) 5) (chain23 (cands R (k0_pay46 x)) 6) (chain23 (cands R (k0_pay46 x)) 7) (chain23 (cands R (k0_pay46 x)) 8) (chain23 (cands R (k0_pay46 x)) 9) = tile R x := rfl
theorem fold_cands (R : FVec Ideal S2x5x2048 .f32) (L : FVec Ideal S2x1024x5 .f32) :
    cand (chain512 (k0_pay54 R L) 0) (chain512 (k0_pay54 R L) 1) (chain512 (k0_pay54 R L) 2) (chain512 (k0_pay54 R L) 3) (chain512 (k0_pay54 R L) 4) (chain512 (k0_pay54 R L) 5) (chain512 (k0_pay54 R L) 6) (chain512 (k0_pay54 R L) 7) (chain512 (k0_pay54 R L) 8) (chain512 (k0_pay54 R L) 9) (chain512 (k0_pay55 R L) 0) (chain512 (k0_pay55 R L) 1) (chain512 (k0_pay55 R L) 2) (chain512 (k0_pay55 R L) 3) (chain512 (k0_pay55 R L) 4) (chain512 (k0_pay32 (k0_pay51 R L)) 0) (chain512 (k0_pay32 (k0_pay51 R L)) 1) (chain512 (k0_pay32 (k0_pay51 R L)) 2) (chain512 (k0_pay32 (k0_pay51 R L)) 3) (chain512 (k0_pay32 (k0_pay51 R L)) 4) (chain512 (k0_pay33 (k0_pay51 R L)) 0) (chain512 (k0_pay33 (k0_pay51 R L)) 1) (chain512 (k0_pay33 (k0_pay51 R L)) 2) = cands R L := rfl

end Cert.PointNet

end
-- ==== Proof.Net.lean ====
/-
  The network after the selection as a function of families of numbers: the layers, the pooled features, the logits.
-/
module

public import Idealize.ShloMosaic.PureOps.Ideal

@[expose] public section

noncomputable section

namespace Cert.PointNet

open Idealize.ShloMosaic

/-- The network's weights and biases, each weight indexed by output, then input. -/
structure Params where
  W1 : Fin 20 → Fin 13 → EReal
  b1 : Fin 20 → EReal
  W2 : Fin 100 → Fin 20 → EReal
  b2 : Fin 100 → EReal
  W3 : Fin 100 → Fin 100 → EReal
  b3 : Fin 100 → EReal
  W4 : Fin 20 → Fin 200 → EReal
  b4 : Fin 20 → EReal
  W5 : Fin 10 → Fin 20 → EReal
  b5 : Fin 10 → EReal
  W6 : Fin 2 → Fin 10 → EReal
  b6 : Fin 2 → EReal

/-- A linear layer. -/
def lin {n k : ℕ} (W : Fin k → Fin n → EReal) (b : Fin k → EReal) (f : Fin n → EReal) (o : Fin k) : EReal :=
  ∑ i, f i * W o i + b o

/-- A linear layer and the positive part. -/
def lay {n k : ℕ} (W : Fin k → Fin n → EReal) (b : Fin k → EReal) (f : Fin n → EReal) (o : Fin k) : EReal :=
  max (lin W b f o) 0

/-- A point's hidden features after two layers. -/
def hidden (P : Params) (f : Fin 13 → EReal) : Fin 100 → EReal := lay P.W2 P.b2 (lay P.W1 P.b1 f)

/-- The mean over the points of the third layer. -/
def pool (P : Params) (F : Fin 2048 → Fin 13 → EReal) (o : Fin 100) : EReal :=
  Ideal.div (∑ p, lay P.W3 P.b3 (hidden P (F p)) o) (Ideal.ofBits .f32 0x45000000#32)

/-- A point's hidden features followed by the pooled ones. -/
def joint (P : Params) (F : Fin 2048 → Fin 13 → EReal) (p : Fin 2048) (i : Fin 200) : EReal :=
  if h : i.val < 100 then hidden P (F p) ⟨i.val, h⟩ else pool P F ⟨i.val - 100, by omega⟩

/-- The two logits of a point. -/
def logits (P : Params) (F : Fin 2048 → Fin 13 → EReal) (p : Fin 2048) : Fin 2 → EReal :=
  lin P.W6 P.b6 (lay P.W5 P.b5 (lay P.W4 P.b4 (joint P F p)))

/-- The greater of two logits. -/
def top (l : Fin 2 → EReal) : EReal := Finset.univ.fold max ⊥ l

/-- The sum of the exponentials of two logits less the greater. -/
def mass (l : Fin 2 → EReal) : EReal := ∑ i, Ideal.exp (l i - top l)

end Cert.PointNet

end
-- ==== Proof.Head.lean ====
/-
  The network after the selection, as one batch of features flows through it.
-/
module

public import proofs.«01_k».proof.Proof.Gen.KernelIdeal.Skeleton
public import proofs.«01_k».proof.Proof.Net
public import Idealize.ShloMosaic.Lib.Pointwise
public import Idealize.ShloMosaic.Lib.ValueIdx
public import Idealize.ShloMosaic.Lib.Pipeline.Value

@[expose] public section

set_option maxRecDepth 16384

noncomputable section

namespace Cert.PointNet

open Cert.KernelIdeal Cert.KernelIdeal.Gen Idealize.ShloMosaic Idealize.SL.Sem

variable (f : Vec Ideal S1x2048x13 .f32) (w1 : Vec Ideal S13x20 .f32) (b1 : Vec Ideal S1x20 .f32)
  (w2 : Vec Ideal S20x100 .f32) (b2 : Vec Ideal S1x100 .f32) (w3 : Vec Ideal S100x100 .f32) (b3 : Vec Ideal S1x100 .f32)
  (w4a w4b : Vec Ideal S100x20 .f32) (b4 : Vec Ideal S1x20 .f32) (w5 : Vec Ideal S20x10 .f32) (b5 : Vec Ideal S1x10 .f32)
  (w6 : Vec Ideal S10x2 .f32) (b6 : Vec Ideal S1x2 .f32)

/-- What one batch of features becomes: the logarithms of the two classes' shares at each point. -/
def head : FVec Ideal S1x2048x2 .f32 :=
  k0_pay86 (k0_pay84 (k0_pay83 f w1 b1 w2 b2) w3 b3 w4a w4b b4 w5 b5) (k0_pay85 w6) b6

theorem head_second :
    k0_pay1 (k0_pay88 (k0_pay87 f w1 b1 w2 b2) w3 b3 w4a w4b b4 w5 b5) (FloatOps.ofBits .f32 0#32) w6 b6
      = head f w1 b1 w2 b2 w3 b3 w4a w4b b4 w5 b5 w6 b6 := rfl

/-- The network's parameters as the arrays the kernel reads hold them. -/
def params : Params where
  W1 o i := w1 (ix2 i o)
  b1 o := b1 (ix2 0 o)
  W2 o i := w2 (ix2 i o)
  b2 o := b2 (ix2 0 o)
  W3 o i := w3 (ix2 i o)
  b3 o := b3 (ix2 0 o)
  W4 o i := if h : i.val < 100 then w4a (ix2 ⟨i.val, h⟩ o) else w4b (ix2 ⟨i.val - 100, by omega⟩ o)
  b4 o := b4 (ix2 0 o)
  W5 o i := w5 (ix2 i o)
  b5 o := b5 (ix2 0 o)
  W6 o i := w6 (ix2 i o)
  b6 o := b6 (ix2 0 o)

/-- The hidden features of a batch, read at a point. -/
theorem hidden_apply (p : Fin 2048) (o : Fin 100) :
    k0_pay83 f w1 b1 w2 b2 (ix2 p o)
      = hidden (params w1 b1 w2 b2 w3 b3 w4a w4b b4 w5 b5 w6 b6) (fun k => f (ix3 0 p k)) o := by
  pointwise [k0_pay83]
  rfl

/-- The layer over hidden and pooled features, as a sum over each. -/
theorem lin_joint (P : Params) (F : Fin 2048 → Fin 13 → EReal) (p : Fin 2048) (o : Fin 20) :
    lin P.W4 P.b4 (joint P F p) o = ∑ i : Fin 100, hidden P (F p) i * P.W4 o ⟨i.val, by omega⟩
      + ∑ i : Fin 100, pool P F i * P.W4 o ⟨100 + i.val, by omega⟩ + P.b4 o := by
  unfold lin
  rw [Fin.sum_univ_two_halves 100 100 rfl]
  refine congrArg (· + P.b4 o) (congrArg₂ (· + ·) ?_ ?_)
  · refine Finset.sum_congr rfl fun i _ => ?_
    unfold joint
    rw [dif_pos (show (_ : Nat) < 100 from i.isLt)]
  · refine Finset.sum_congr rfl fun i _ => ?_
    unfold joint
    rw [dif_neg (by simp)]
    simp

/-- The layers after the hidden features, read at a point. -/
theorem body_apply (g : FVec Ideal S2048x100 .f32) (F : Fin 2048 → Fin 13 → EReal)
    (hg : ∀ p o, g (ix2 p o) = hidden (params w1 b1 w2 b2 w3 b3 w4a w4b b4 w5 b5 w6 b6) (F p) o)
    (p : Fin 2048) (o : Fin 10) :
    k0_pay84 g w3 b3 w4a w4b b4 w5 b5 (ix2 p o)
      = lay (params w1 b1 w2 b2 w3 b3 w4a w4b b4 w5 b5 w6 b6).W5 (params w1 b1 w2 b2 w3 b3 w4a w4b b4 w5 b5 w6 b6).b5
          (lay (params w1 b1 w2 b2 w3 b3 w4a w4b b4 w5 b5 w6 b6).W4 (params w1 b1 w2 b2 w3 b3 w4a w4b b4 w5 b5 w6 b6).b4
            (joint (params w1 b1 w2 b2 w3 b3 w4a w4b b4 w5 b5 w6 b6) F p)) o := by
  obtain ⟨P, hP⟩ : ∃ P, P = params w1 b1 w2 b2 w3 b3 w4a w4b b4 w5 b5 w6 b6 := ⟨_, rfl⟩
  rw [← hP] at hg ⊢
  change _ = max (∑ i, max (lin P.W4 P.b4 (joint P F p) i) 0 * P.W5 o i + P.b5 o) 0
  simp only [lin_joint]
  pointwise [k0_pay84]
  simp only [hg]
  simp only [pool, lay, lin]
  simp only [hP, params, Nat.reduceLT, Fin.is_lt, ↓reduceDIte, Nat.add_sub_cancel_left,
    show ∀ i : Fin 100, ¬ (100 + i.val < 100) from fun i => by omega]

/-- The pattern of minus infinity denotes `⊥`. -/
theorem ofBits_neg_inf : Ideal.ofBits .f32 0xFF800000#32 = ⊥ := by
  simp [Ideal.ofBits, Ideal.ieee, -EReal.coe_mul]

/-- A batch's output at a point and a class: the logit less the greater logit and the logarithm of the mass. -/
theorem head_apply (p : Fin 2048) (j : Fin 2) :
    head f w1 b1 w2 b2 w3 b3 w4a w4b b4 w5 b5 w6 b6 (ix3 0 p j)
      = logits (params w1 b1 w2 b2 w3 b3 w4a w4b b4 w5 b5 w6 b6) (fun q k => f (ix3 0 q k)) p j
        - (top (logits (params w1 b1 w2 b2 w3 b3 w4a w4b b4 w5 b5 w6 b6) (fun q k => f (ix3 0 q k)) p)
          + Ideal.log (mass (logits (params w1 b1 w2 b2 w3 b3 w4a w4b b4 w5 b5 w6 b6) (fun q k => f (ix3 0 q k)) p))) := by
  have hb := body_apply w1 b1 w2 b2 w3 b3 w4a w4b b4 w5 b5 w6 b6 (k0_pay83 f w1 b1 w2 b2) (fun q k => f (ix3 0 q k))
    (hidden_apply f w1 b1 w2 b2 w3 b3 w4a w4b b4 w5 b5 w6 b6)
  unfold head mass top logits
  generalize k0_pay84 (k0_pay83 f w1 b1 w2 b2) w3 b3 w4a w4b b4 w5 b5 = g at hb ⊢
  pointwise [k0_pay86, k0_pay85]
  rw [ofBits_neg_inf]
  simp only [hb]
  rfl

end Cert.PointNet

end
-- ==== Proof.Block.lean ====
/-
  What the kernel leaves of one block of two batches: each batch's features, gathered from two row tiles, through the head.
-/
module

public import proofs.«01_k».proof.Proof.Gen.KernelIdeal.Value
public import proofs.«01_k».proof.Proof.Tile
public import proofs.«01_k».proof.Proof.Head
public import Idealize.ShloMosaic.Lib.Pipeline.Value
public import Idealize.ShloMosaic.Lib.Pipeline.ValueKit.Tiles
public import Idealize.ShloMosaic.Lib.Pointwise

@[expose] public section

set_option maxRecDepth 16384

noncomputable section

namespace Cert.PointNet

open Cert.KernelIdeal Cert.KernelIdeal.Gen Idealize.ShloMosaic Idealize.ShloMosaic.TcCoe Idealize.SL.Sem Idealize.ShloMosaic.Tactic

/-- Rows 0 to 1023 of one tile and rows 1024 to 2047 of another, read at an index. -/
theorem two_tiles (A B : FVec Ideal S2x1024x13 .f32) (b : Fin 2) (r : Fin 2048) (q : Fin 13) :
    View.canon (Val := Elt Ideal) (s := S2x2048x13) (e := .f32)
      [⟨Rect.unit ![0, 1024, 0] ![2, 1024, 13] inb_S2x2048x13_S2x1024x13_0_1024_0, A⟩,
       ⟨Rect.unit ![0, 0, 0] ![2, 1024, 13] inb_S2x2048x13_S2x1024x13_0_0_0, B⟩] (ix3 b r q)
      = if h : r.val < 1024 then B (ix3 b ⟨r.val, h⟩ q) else A (ix3 b ⟨r.val - 1024, by omega⟩ q) := by
  by_cases h : r.val < 1024
  · rw [dif_pos h, View.canon_cons_of_not_mem]
    · have e : (ix3 b r q : S2x2048x13.Idx) = (Rect.unit (s := S2x2048x13) ![0, 0, 0] ![2, 1024, 13]
          inb_S2x2048x13_S2x1024x13_0_0_0).emb (ix3 b ⟨r.val, h⟩ q) := by
        funext a
        refine Fin.ext (Eq.trans ?_ (Rect.idx_unit_val _ _ _ _ a).symm)
        match a with
        | ⟨0, _⟩ => exact (Nat.zero_add _).symm
        | ⟨1, _⟩ => exact (Nat.zero_add _).symm
        | ⟨2, _⟩ => exact (Nat.zero_add _).symm
      rw [e, View.canon_cons_emb]
    · intro hm
      obtain ⟨x, hx⟩ := LoadRect.exists_idx_of_mem _ hm
      have h1 := congrArg (fun y : S2x2048x13.Idx => (y 1).val) hx
      have h2 := Rect.idx_unit_val (s := S2x2048x13) ![0, 1024, 0] ![2, 1024, 13] inb_S2x2048x13_S2x1024x13_0_1024_0 x 1
      have h3 : r.val = 1024 + (x 1).val := h1.symm.trans h2
      omega
  · rw [dif_neg h]
    have e : (ix3 b r q : S2x2048x13.Idx) = (Rect.unit (s := S2x2048x13) ![0, 1024, 0] ![2, 1024, 13]
        inb_S2x2048x13_S2x1024x13_0_1024_0).emb (ix3 b ⟨r.val - 1024, by omega⟩ q) := by
      funext a
      refine Fin.ext (Eq.trans ?_ (Rect.idx_unit_val _ _ _ _ a).symm)
      match a with
      | ⟨0, _⟩ => exact (Nat.zero_add _).symm
      | ⟨1, _⟩ => show r.val = 1024 + (r.val - 1024); omega
      | ⟨2, _⟩ => exact (Nat.zero_add _).symm
    rw [e, View.canon_cons_emb]

/-- The outputs of two batches, one after the other, read at an index. -/
theorem two_batches (A B : FVec Ideal S1x2048x2 .f32) (b : Fin 2) (r : Fin 2048) (j : Fin 2) :
    View.canon (Val := Elt Ideal) (s := S2x2048x2) (e := .f32)
      [⟨Rect.unit ![1, 0, 0] ![1, 2048, 2] inb_S2x2048x2_S1x2048x2_1_0_0, A⟩,
       ⟨Rect.unit ![0, 0, 0] ![1, 2048, 2] inb_S2x2048x2_S1x2048x2_0_0_0, B⟩] (ix3 b r j)
      = if b.val = 0 then B (ix3 0 r j) else A (ix3 0 r j) := by
  by_cases h : b.val = 0
  · rw [if_pos h, View.canon_cons_of_not_mem]
    · have e : (ix3 b r j : S2x2048x2.Idx) = (Rect.unit (s := S2x2048x2) ![0, 0, 0] ![1, 2048, 2]
          inb_S2x2048x2_S1x2048x2_0_0_0).emb (ix3 0 r j) := by
        funext a
        refine Fin.ext (Eq.trans ?_ (Rect.idx_unit_val _ _ _ _ a).symm)
        match a with
        | ⟨0, _⟩ => exact h
        | ⟨1, _⟩ => exact (Nat.zero_add _).symm
        | ⟨2, _⟩ => exact (Nat.zero_add _).symm
      rw [e, View.canon_cons_emb]
    · intro hm
      obtain ⟨x, hx⟩ := LoadRect.exists_idx_of_mem _ hm
      have h1 := congrArg (fun y : S2x2048x2.Idx => (y 0).val) hx
      have h2 := Rect.idx_unit_val (s := S2x2048x2) ![1, 0, 0] ![1, 2048, 2] inb_S2x2048x2_S1x2048x2_1_0_0 x 0
      have h3 : b.val = 1 + (x 0).val := h1.symm.trans h2
      omega
  · rw [if_neg h]
    have e : (ix3 b r j : S2x2048x2.Idx) = (Rect.unit (s := S2x2048x2) ![1, 0, 0] ![1, 2048, 2]
        inb_S2x2048x2_S1x2048x2_1_0_0).emb (ix3 0 r j) := by
      funext a
      refine Fin.ext (Eq.trans ?_ (Rect.idx_unit_val _ _ _ _ a).symm)
      match a with
      | ⟨0, _⟩ => show b.val = 1 + 0; omega
      | ⟨1, _⟩ => exact (Nat.zero_add _).symm
      | ⟨2, _⟩ => exact (Nat.zero_add _).symm
    rw [e, View.canon_cons_emb]

/-- A load of a whole array of two axes reads it. -/
theorem ld_whole2 {n k : ℕ} (X : (⟨2, ![n, k]⟩ : Shape).Idx → Elt Ideal .f32)
    (inb : ∀ a, (![0, 0] : Fin 2 → ℕ) a + (![n, k] : Fin 2 → ℕ) a ≤ (⟨2, ![n, k]⟩ : Shape).size a) :
    View.ld X (Rect.unit (s := ⟨2, ![n, k]⟩) ![0, 0] ![n, k] inb) = X :=
  View.ld_unit_zero (S := ⟨2, ![n, k]⟩) (funext fun a => by match a with | ⟨0, _⟩ => rfl | ⟨1, _⟩ => rfl) inb X

/-- A load of a whole array of three axes reads it. -/
theorem ld_whole3 {n k l : ℕ} (X : (⟨3, ![n, k, l]⟩ : Shape).Idx → Elt Ideal .f32)
    (inb : ∀ a, (![0, 0, 0] : Fin 3 → ℕ) a + (![n, k, l] : Fin 3 → ℕ) a ≤ (⟨3, ![n, k, l]⟩ : Shape).size a) :
    View.ld X (Rect.unit (s := ⟨3, ![n, k, l]⟩) ![0, 0, 0] ![n, k, l] inb) = X :=
  View.ld_unit_zero (S := ⟨3, ![n, k, l]⟩)
    (funext fun a => by match a with | ⟨0, _⟩ => rfl | ⟨1, _⟩ => rfl | ⟨2, _⟩ => rfl) inb X

/-- The features gathered from two row tiles, read back for the first batch and for the second. -/
theorem gathered0 (A B : FVec Ideal S2x1024x13 .f32) (r : Fin 2048) (q : Fin 13) :
    (View.whole cc0_scratch0).readCov (Val := Elt Ideal)
      [⟨Rect.unit ![0, 1024, 0] ![2, 1024, 13] inb_S2x2048x13_S2x1024x13_0_1024_0, A⟩,
       ⟨Rect.unit ![0, 0, 0] ![2, 1024, 13] inb_S2x2048x13_S2x1024x13_0_0_0, B⟩]
      (Rect.unit (s := S2x2048x13) ![0, 0, 0] ![1, 2048, 13] inb_S2x2048x13_S1x2048x13_0_0_0).toLoadRect (ix3 0 r q : S1x2048x13.Idx)
      = if h : r.val < 1024 then B (ix3 0 ⟨r.val, h⟩ q) else A (ix3 0 ⟨r.val - 1024, by omega⟩ q) := by
  refine Eq.trans ?_ (two_tiles A B 0 r q)
  rw [View.readCov_eq_canon']
  refine congrArg _ (funext fun a => Fin.ext ((Rect.idx_unit_val (s := S2x2048x13) _ _ _ _ a).trans ?_))
  match a with
  | ⟨0, _⟩ => rfl
  | ⟨1, _⟩ => exact Nat.zero_add _
  | ⟨2, _⟩ => exact Nat.zero_add _

theorem gathered1 (A B : FVec Ideal S2x1024x13 .f32) (r : Fin 2048) (q : Fin 13) :
    (View.whole cc0_scratch0).readCov (Val := Elt Ideal)
      [⟨Rect.unit ![0, 1024, 0] ![2, 1024, 13] inb_S2x2048x13_S2x1024x13_0_1024_0, A⟩,
       ⟨Rect.unit ![0, 0, 0] ![2, 1024, 13] inb_S2x2048x13_S2x1024x13_0_0_0, B⟩]
      (Rect.unit (s := S2x2048x13) ![1, 0, 0] ![1, 2048, 13] inb_S2x2048x13_S1x2048x13_1_0_0).toLoadRect (ix3 0 r q : S1x2048x13.Idx)
      = if h : r.val < 1024 then B (ix3 1 ⟨r.val, h⟩ q) else A (ix3 1 ⟨r.val - 1024, by omega⟩ q) := by
  refine Eq.trans ?_ (two_tiles A B 1 r q)
  rw [View.readCov_eq_canon']
  refine congrArg _ (funext fun a => Fin.ext ((Rect.idx_unit_val (s := S2x2048x13) _ _ _ _ a).trans ?_))
  match a with
  | ⟨0, _⟩ => rfl
  | ⟨1, _⟩ => exact Nat.zero_add _
  | ⟨2, _⟩ => exact Nat.zero_add _

/-- The first and the last 1024 points of each batch of a block. -/
def points0 (x : Vec Ideal S2x2048x3 .f32) : Vec Ideal S2x1024x3 .f32 :=
  View.ld x (Rect.unit ![0, 0, 0] ![2, 1024, 3] inb_S2x2048x3_S2x1024x3_0_0_0)

def points1 (x : Vec Ideal S2x2048x3 .f32) : Vec Ideal S2x1024x3 .f32 :=
  View.ld x (Rect.unit ![0, 1024, 0] ![2, 1024, 3] inb_S2x2048x3_S2x1024x3_0_1024_0)

theorem points0_apply (x : Vec Ideal S2x2048x3 .f32) (b : Fin 2) (r : Fin 1024) (k : Fin 3) :
    points0 x (ix3 b r k) = x (ix3 b ⟨r.val, by omega⟩ k) := by
  unfold points0; pointwise

theorem points1_apply (x : Vec Ideal S2x2048x3 .f32) (b : Fin 2) (r : Fin 1024) (k : Fin 3) :
    points1 x (ix3 b r k) = x (ix3 b ⟨1024 + r.val, by omega⟩ k) := by
  unfold points1; pointwise

/-- A block's features: for each point of each batch, its row of the row tile it lies in. -/
def feats (x : Vec Ideal S2x2048x3 .f32) (xc : Vec Ideal S2x3x2048 .f32) (b : Fin 2) (r : Fin 2048) (q : Fin 13) : EReal :=
  if h : r.val < 1024 then tile (k0_pay2 xc) (points0 x) (ix3 b ⟨r.val, h⟩ q)
  else tile (k0_pay2 xc) (points1 x) (ix3 b ⟨r.val - 1024, by omega⟩ q)

variable (m : (ℓ : Loc nD τ sig) → Buf (Elt Ideal) ℓ) (c : Dev nD)

/-- The network's parameters as the block's windows hold them. -/
def blockParams (t : Fin cfg0.N) : Params :=
  params (iblk m c 2 t) (iblk m c 3 t) (iblk m c 4 t) (iblk m c 5 t) (iblk m c 6 t) (iblk m c 7 t) (iblk m c 8 t)
    (iblk m c 9 t) (iblk m c 10 t) (iblk m c 11 t) (iblk m c 12 t) (iblk m c 13 t) (iblk m c 14 t)

set_option maxHeartbeats 1000000 in
/-- One block's output at an index. -/
theorem block_apply (t : Fin cfg0.N) (b : Fin 2) (r : Fin 2048) (j : Fin 2) :
    outsAt0 m c t (ix3 b r j)
      = logits (blockParams m c t) (feats (iblk m c 0 t) (iblk m c 1 t) b) r j
        - (top (logits (blockParams m c t) (feats (iblk m c 0 t) (iblk m c 1 t) b) r)
          + Ideal.log (mass (logits (blockParams m c t) (feats (iblk m c 0 t) (iblk m c 1 t) b) r))) := by
  unfold outsAt0 out0_A_15
  rw [View.read_writes_eq_canon _ _ _ (cover0_A_15 c _ _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (Memref.isWhole_whole _) _ _ _ _ _ _ _ _ _ _ _ _ _ _ _)]
  unfold kernelRun0_A; dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread]
  simp only [pay4_eq, pay5_eq, pay6_eq, pay7_eq, pay8_eq, pay9_eq, pay10_eq, pay11_eq, pay12_eq, pay13_eq, pay14_eq, pay15_eq, pay16_eq, pay17_eq, pay18_eq, pay19_eq, pay20_eq, pay21_eq, pay22_eq, pay23_eq, pay24_eq, pay25_eq, pay26_eq, pay27_eq, pay28_eq, pay29_eq, pay34_eq, pay35_eq, pay36_eq, pay37_eq, pay38_eq, pay39_eq, pay40_eq, pay41_eq, pay42_eq, pay43_eq, pay44_eq, pay45_eq, pay56_eq, pay57_eq, pay58_eq, pay59_eq, pay60_eq, pay61_eq, pay62_eq, pay63_eq, pay64_eq, pay65_eq, pay66_eq, pay67_eq, pay68_eq, pay69_eq, pay70_eq, pay71_eq, pay72_eq, pay73_eq, pay74_eq, pay75_eq, pay76_eq, pay77_eq, pay78_eq, pay79_eq, pay80_eq, pay81_eq, pay82_eq, fold_col512, fold_col23]
  simp only [fold_next512, fold_next23]
  simp only [fold_first512, fold_first23, fold_chain512, fold_chain23, Nat.reduceAdd, zero_add]
  simp only [fold_cands]
  simp only [fold_tile]
  rw [two_batches]
  rw [head_second]
  rw [ld_whole3 (iblk m c 1 t)]
  rw [ld_whole2 (iblk m c 2 t), ld_whole2 (iblk m c 3 t), ld_whole2 (iblk m c 4 t), ld_whole2 (iblk m c 5 t),
    ld_whole2 (iblk m c 6 t), ld_whole2 (iblk m c 7 t), ld_whole2 (iblk m c 8 t), ld_whole2 (iblk m c 9 t),
    ld_whole2 (iblk m c 10 t), ld_whole2 (iblk m c 11 t), ld_whole2 (iblk m c 12 t), ld_whole2 (iblk m c 13 t),
    ld_whole2 (iblk m c 14 t)]
  by_cases hb : b.val = 0
  · rw [if_pos hb]
    obtain rfl : b = 0 := Fin.ext hb
    have e : feats (iblk m c 0 t) (iblk m c 1 t) 0 = _ := funext fun r => funext fun q =>
      (gathered0 (tile (k0_pay2 (iblk m c 1 t)) (points1 (iblk m c 0 t)))
        (tile (k0_pay2 (iblk m c 1 t)) (points0 (iblk m c 0 t))) r q).symm
    rw [e]
    exact head_apply _ _ _ _ _ _ _ _ _ _ _ _ _ _ r j
  · rw [if_neg hb]
    obtain rfl : b = 1 := Fin.ext (by have := b.isLt; show b.val = 1; omega)
    have e : feats (iblk m c 0 t) (iblk m c 1 t) 1 = _ := funext fun r => funext fun q =>
      (gathered1 (tile (k0_pay2 (iblk m c 1 t)) (points1 (iblk m c 0 t)))
        (tile (k0_pay2 (iblk m c 1 t)) (points0 (iblk m c 0 t))) r q).symm
    rw [e]
    exact head_apply _ _ _ _ _ _ _ _ _ _ _ _ _ _ r j

end Cert.PointNet

end
-- ==== Proof.Arrays.lean ====
/-
  The kernel's arrays in terms of the arrays @main is launched with: what the host lines before the region leave, what
  each window's block holds, and the result array at an index.
-/
module

public import proofs.«01_k».proof.Proof.Block
public import Idealize.ShloMosaic.Lib.StableHlo.ReadAt
public import Idealize.ShloMosaic.Lib.Pipeline.ValueKit.Geometry

@[expose] public section

set_option maxRecDepth 16384

noncomputable section

namespace Cert.PointNet

open Cert.KernelIdeal Cert.KernelIdeal.Gen Idealize.ShloMosaic Idealize.ShloMosaic.TcCoe Idealize.SL.Sem
open Idealize.ShloMosaic.Tactic

variable (m : (ℓ : Loc nD τ sig) → Buf (Elt Ideal) ℓ) (c : Dev nD)

/-- The transposed cloud: coordinate `k` of point `r` of batch `n`. -/
theorem V_cloud (n : Fin 8) (k : Fin 3) (r : Fin 2048) :
    V m c main_v0 (ix3 n k r : S8x3x2048.Idx) = m ((c : Thread nD τ).loc main_arg0) (ix3 n r k : S8x2048x3.Idx) := by
  unfold V
  after_reads_at

/-- A weight matrix as the region finds it is the argument transposed. -/
theorem V_w1 (i : Fin 13) (o : Fin 20) :
    V m c main_v1 (ix2 i o : S13x20.Idx) = m ((c : Thread nD τ).loc main_arg1) (ix2 o i : S20x13.Idx) := by
  unfold V
  after_reads_at

/-- A weight matrix as the region finds it is the argument transposed. -/
theorem V_w2 (i : Fin 20) (o : Fin 100) :
    V m c main_v2 (ix2 i o : S20x100.Idx) = m ((c : Thread nD τ).loc main_arg3) (ix2 o i : S100x20.Idx) := by
  unfold V
  after_reads_at

/-- A weight matrix as the region finds it is the argument transposed. -/
theorem V_w3 (i : Fin 100) (o : Fin 100) :
    V m c main_v3 (ix2 i o : S100x100.Idx) = m ((c : Thread nD τ).loc main_arg5) (ix2 o i : S100x100.Idx) := by
  unfold V
  after_reads_at

/-- A weight matrix as the region finds it is the argument transposed. -/
theorem V_w5 (i : Fin 20) (o : Fin 10) :
    V m c main_v8 (ix2 i o : S20x10.Idx) = m ((c : Thread nD τ).loc main_arg9) (ix2 o i : S10x20.Idx) := by
  unfold V
  after_reads_at

/-- A weight matrix as the region finds it is the argument transposed. -/
theorem V_w6 (i : Fin 10) (o : Fin 2) :
    V m c main_v9 (ix2 i o : S10x2.Idx) = m ((c : Thread nD τ).loc main_arg11) (ix2 o i : S2x10.Idx) := by
  unfold V
  after_reads_at

/-- The first hundred input channels of the fourth weight matrix, transposed. -/
theorem V_w4a (i : Fin 100) (o : Fin 20) :
    V m c main_v5 (ix2 i o : S100x20.Idx) = m ((c : Thread nD τ).loc main_arg7) (ix2 o (⟨i.val, by omega⟩ : Fin 200) : S20x200.Idx) := by
  unfold V
  after_reads_at

/-- Its other hundred input channels, transposed. -/
theorem V_w4b (i : Fin 100) (o : Fin 20) :
    V m c main_v7 (ix2 i o : S100x20.Idx) = m ((c : Thread nD τ).loc main_arg7) (ix2 o (⟨100 + i.val, by omega⟩ : Fin 200) : S20x200.Idx) := by
  unfold V
  after_reads_at

/-- A bias as the region finds it is the argument laid out as one row. -/
theorem V_b1 (o : Fin 20) :
    V m c main_v10 (ix2 0 o : S1x20.Idx) = m ((c : Thread nD τ).loc main_arg2) (ix1 o : S20.Idx) := by
  unfold V
  after_reads_at

/-- A bias as the region finds it is the argument laid out as one row. -/
theorem V_b2 (o : Fin 100) :
    V m c main_v11 (ix2 0 o : S1x100.Idx) = m ((c : Thread nD τ).loc main_arg4) (ix1 o : S100.Idx) := by
  unfold V
  after_reads_at

/-- A bias as the region finds it is the argument laid out as one row. -/
theorem V_b3 (o : Fin 100) :
    V m c main_v12 (ix2 0 o : S1x100.Idx) = m ((c : Thread nD τ).loc main_arg6) (ix1 o : S100.Idx) := by
  unfold V
  after_reads_at

/-- A bias as the region finds it is the argument laid out as one row. -/
theorem V_b4 (o : Fin 20) :
    V m c main_v13 (ix2 0 o : S1x20.Idx) = m ((c : Thread nD τ).loc main_arg8) (ix1 o : S20.Idx) := by
  unfold V
  after_reads_at

/-- A bias as the region finds it is the argument laid out as one row. -/
theorem V_b5 (o : Fin 10) :
    V m c main_v14 (ix2 0 o : S1x10.Idx) = m ((c : Thread nD τ).loc main_arg10) (ix1 o : S10.Idx) := by
  unfold V
  after_reads_at

/-- A bias as the region finds it is the argument laid out as one row. -/
theorem V_b6 (o : Fin 2) :
    V m c main_v15 (ix2 0 o : S1x2.Idx) = m ((c : Thread nD τ).loc main_arg12) (ix1 o : S2.Idx) := by
  unfold V
  after_reads_at

/-- Element `(b, r, k)` of the cloud's block `t` is element `(2t + b, r, k)` of the cloud. -/
theorem emb_x (t : Fin cfg0.N) (n : Fin 8) (b : Fin 2) (hn : n.val = 2 * t.val + b.val) (r : Fin 2048) (k : Fin 3) :
    (win0_0.blk t).view.emb (ix3 b r k : S2x2048x3.Idx) = (ix3 n r k : S8x2048x3.Idx) := by
  have h : ∀ t : Fin grid0.N, win0_0.index t 0 = t.val ∧ win0_0.index t 1 = 0 ∧ win0_0.index t 2 = 0 := by decide +kernel
  refine funext fun a => Fin.ext ?_
  refine (Pipeline.Window.rect_emb_val win0_0 t (ix3 b r k : S2x2048x3.Idx) a).trans ?_
  have h' := h t
  fin_cases a
  · show win0_0.index t 0 * 2 + b.val = n.val; rw [h'.1]; omega
  · show win0_0.index t 1 * 2048 + r.val = r.val; rw [h'.2.1]; omega
  · show win0_0.index t 2 * 3 + k.val = k.val; rw [h'.2.2]; omega

/-- Element `(b, k, r)` of the transposed cloud's block `t` is element `(2t + b, k, r)` of the transposed cloud. -/
theorem emb_xc (t : Fin cfg0.N) (n : Fin 8) (b : Fin 2) (hn : n.val = 2 * t.val + b.val) (r : Fin 2048) (k : Fin 3) :
    (win0_1.blk t).view.emb (ix3 b k r : S2x3x2048.Idx) = (ix3 n k r : S8x3x2048.Idx) := by
  have h : ∀ t : Fin grid0.N, win0_1.index t 0 = t.val ∧ win0_1.index t 1 = 0 ∧ win0_1.index t 2 = 0 := by decide +kernel
  refine funext fun a => Fin.ext ?_
  refine (Pipeline.Window.rect_emb_val win0_1 t (ix3 b k r : S2x3x2048.Idx) a).trans ?_
  have h' := h t
  fin_cases a
  · show win0_1.index t 0 * 2 + b.val = n.val; rw [h'.1]; omega
  · show win0_1.index t 1 * 3 + k.val = k.val; rw [h'.2.1]; omega
  · show win0_1.index t 2 * 2048 + r.val = r.val; rw [h'.2.2]; omega

/-- Element `(b, r, j)` of the result's block `t` is element `(2t + b, r, j)` of the result. -/
theorem emb_out (t : Fin cfg0.N) (n : Fin 8) (b : Fin 2) (hn : n.val = 2 * t.val + b.val) (r : Fin 2048) (j : Fin 2) :
    (win0_15.blk t).view.emb (ix3 b r j : S2x2048x2.Idx) = (ix3 n r j : S8x2048x2.Idx) := by
  have h : ∀ t : Fin grid0.N, win0_15.index t 0 = t.val ∧ win0_15.index t 1 = 0 ∧ win0_15.index t 2 = 0 := by decide +kernel
  refine funext fun a => Fin.ext ?_
  refine (Pipeline.Window.rect_emb_val win0_15 t (ix3 b r j : S2x2048x2.Idx) a).trans ?_
  have h' := h t
  fin_cases a
  · show win0_15.index t 0 * 2 + b.val = n.val; rw [h'.1]; omega
  · show win0_15.index t 1 * 2048 + r.val = r.val; rw [h'.2.1]; omega
  · show win0_15.index t 2 * 2 + j.val = j.val; rw [h'.2.2]; omega

/-- Block `t` of the cloud holds batches `2t` and `2t + 1`. -/
theorem block_x (t : Fin cfg0.N) (n : Fin 8) (b : Fin 2) (hn : n.val = 2 * t.val + b.val) (r : Fin 2048) (k : Fin 3) :
    iblk m c 0 t (ix3 b r k : S2x2048x3.Idx) = m ((c : Thread nD τ).loc main_arg0) (ix3 n r k : S8x2048x3.Idx) := by
  rw [← V_main_arg0 m c]
  blk_simp [iblk]
  exact congrArg (V m c main_arg0) (emb_x t n b hn r k)

/-- Block `t` of the transposed cloud holds batches `2t` and `2t + 1`. -/
theorem block_xc (t : Fin cfg0.N) (n : Fin 8) (b : Fin 2) (hn : n.val = 2 * t.val + b.val) (r : Fin 2048) (k : Fin 3) :
    iblk m c 1 t (ix3 b k r : S2x3x2048.Idx) = m ((c : Thread nD τ).loc main_arg0) (ix3 n r k : S8x2048x3.Idx) := by
  refine Eq.trans ?_ (V_cloud m c n k r)
  blk_simp [iblk]
  exact congrArg (V m c main_v0) (emb_xc t n b hn r k)

/-- Window 2 stages its array whole. -/
theorem block_w1 (t : Fin cfg0.N) (i : Fin 13) (o : Fin 20) :
    iblk m c 2 t (ix2 i o : S13x20.Idx) = V m c main_v1 (ix2 i o : S13x20.Idx) := by
  have h : ∀ t : Fin grid0.N, ∀ a, win0_2.index t a = 0 := by decide +kernel
  blk_simp [iblk]
  exact congrArg (V m c main_v1) (funext fun a => Fin.ext
    (Pipeline.Window.rect_emb_val_of_index_zero win0_2 t a (h t a) (ix2 i o : S13x20.Idx)))

/-- Window 3 stages its array whole. -/
theorem block_b1 (t : Fin cfg0.N) (i : Fin 1) (o : Fin 20) :
    iblk m c 3 t (ix2 i o : S1x20.Idx) = V m c main_v10 (ix2 i o : S1x20.Idx) := by
  have h : ∀ t : Fin grid0.N, ∀ a, win0_3.index t a = 0 := by decide +kernel
  blk_simp [iblk]
  exact congrArg (V m c main_v10) (funext fun a => Fin.ext
    (Pipeline.Window.rect_emb_val_of_index_zero win0_3 t a (h t a) (ix2 i o : S1x20.Idx)))

/-- Window 4 stages its array whole. -/
theorem block_w2 (t : Fin cfg0.N) (i : Fin 20) (o : Fin 100) :
    iblk m c 4 t (ix2 i o : S20x100.Idx) = V m c main_v2 (ix2 i o : S20x100.Idx) := by
  have h : ∀ t : Fin grid0.N, ∀ a, win0_4.index t a = 0 := by decide +kernel
  blk_simp [iblk]
  exact congrArg (V m c main_v2) (funext fun a => Fin.ext
    (Pipeline.Window.rect_emb_val_of_index_zero win0_4 t a (h t a) (ix2 i o : S20x100.Idx)))

/-- Window 5 stages its array whole. -/
theorem block_b2 (t : Fin cfg0.N) (i : Fin 1) (o : Fin 100) :
    iblk m c 5 t (ix2 i o : S1x100.Idx) = V m c main_v11 (ix2 i o : S1x100.Idx) := by
  have h : ∀ t : Fin grid0.N, ∀ a, win0_5.index t a = 0 := by decide +kernel
  blk_simp [iblk]
  exact congrArg (V m c main_v11) (funext fun a => Fin.ext
    (Pipeline.Window.rect_emb_val_of_index_zero win0_5 t a (h t a) (ix2 i o : S1x100.Idx)))

/-- Window 6 stages its array whole. -/
theorem block_w3 (t : Fin cfg0.N) (i : Fin 100) (o : Fin 100) :
    iblk m c 6 t (ix2 i o : S100x100.Idx) = V m c main_v3 (ix2 i o : S100x100.Idx) := by
  have h : ∀ t : Fin grid0.N, ∀ a, win0_6.index t a = 0 := by decide +kernel
  blk_simp [iblk]
  exact congrArg (V m c main_v3) (funext fun a => Fin.ext
    (Pipeline.Window.rect_emb_val_of_index_zero win0_6 t a (h t a) (ix2 i o : S100x100.Idx)))

/-- Window 7 stages its array whole. -/
theorem block_b3 (t : Fin cfg0.N) (i : Fin 1) (o : Fin 100) :
    iblk m c 7 t (ix2 i o : S1x100.Idx) = V m c main_v12 (ix2 i o : S1x100.Idx) := by
  have h : ∀ t : Fin grid0.N, ∀ a, win0_7.index t a = 0 := by decide +kernel
  blk_simp [iblk]
  exact congrArg (V m c main_v12) (funext fun a => Fin.ext
    (Pipeline.Window.rect_emb_val_of_index_zero win0_7 t a (h t a) (ix2 i o : S1x100.Idx)))

/-- Window 8 stages its array whole. -/
theorem block_w4a (t : Fin cfg0.N) (i : Fin 100) (o : Fin 20) :
    iblk m c 8 t (ix2 i o : S100x20.Idx) = V m c main_v5 (ix2 i o : S100x20.Idx) := by
  have h : ∀ t : Fin grid0.N, ∀ a, win0_8.index t a = 0 := by decide +kernel
  blk_simp [iblk]
  exact congrArg (V m c main_v5) (funext fun a => Fin.ext
    (Pipeline.Window.rect_emb_val_of_index_zero win0_8 t a (h t a) (ix2 i o : S100x20.Idx)))

/-- Window 9 stages its array whole. -/
theorem block_w4b (t : Fin cfg0.N) (i : Fin 100) (o : Fin 20) :
    iblk m c 9 t (ix2 i o : S100x20.Idx) = V m c main_v7 (ix2 i o : S100x20.Idx) := by
  have h : ∀ t : Fin grid0.N, ∀ a, win0_9.index t a = 0 := by decide +kernel
  blk_simp [iblk]
  exact congrArg (V m c main_v7) (funext fun a => Fin.ext
    (Pipeline.Window.rect_emb_val_of_index_zero win0_9 t a (h t a) (ix2 i o : S100x20.Idx)))

/-- Window 10 stages its array whole. -/
theorem block_b4 (t : Fin cfg0.N) (i : Fin 1) (o : Fin 20) :
    iblk m c 10 t (ix2 i o : S1x20.Idx) = V m c main_v13 (ix2 i o : S1x20.Idx) := by
  have h : ∀ t : Fin grid0.N, ∀ a, win0_10.index t a = 0 := by decide +kernel
  blk_simp [iblk]
  exact congrArg (V m c main_v13) (funext fun a => Fin.ext
    (Pipeline.Window.rect_emb_val_of_index_zero win0_10 t a (h t a) (ix2 i o : S1x20.Idx)))

/-- Window 11 stages its array whole. -/
theorem block_w5 (t : Fin cfg0.N) (i : Fin 20) (o : Fin 10) :
    iblk m c 11 t (ix2 i o : S20x10.Idx) = V m c main_v8 (ix2 i o : S20x10.Idx) := by
  have h : ∀ t : Fin grid0.N, ∀ a, win0_11.index t a = 0 := by decide +kernel
  blk_simp [iblk]
  exact congrArg (V m c main_v8) (funext fun a => Fin.ext
    (Pipeline.Window.rect_emb_val_of_index_zero win0_11 t a (h t a) (ix2 i o : S20x10.Idx)))

/-- Window 12 stages its array whole. -/
theorem block_b5 (t : Fin cfg0.N) (i : Fin 1) (o : Fin 10) :
    iblk m c 12 t (ix2 i o : S1x10.Idx) = V m c main_v14 (ix2 i o : S1x10.Idx) := by
  have h : ∀ t : Fin grid0.N, ∀ a, win0_12.index t a = 0 := by decide +kernel
  blk_simp [iblk]
  exact congrArg (V m c main_v14) (funext fun a => Fin.ext
    (Pipeline.Window.rect_emb_val_of_index_zero win0_12 t a (h t a) (ix2 i o : S1x10.Idx)))

/-- Window 13 stages its array whole. -/
theorem block_w6 (t : Fin cfg0.N) (i : Fin 10) (o : Fin 2) :
    iblk m c 13 t (ix2 i o : S10x2.Idx) = V m c main_v9 (ix2 i o : S10x2.Idx) := by
  have h : ∀ t : Fin grid0.N, ∀ a, win0_13.index t a = 0 := by decide +kernel
  blk_simp [iblk]
  exact congrArg (V m c main_v9) (funext fun a => Fin.ext
    (Pipeline.Window.rect_emb_val_of_index_zero win0_13 t a (h t a) (ix2 i o : S10x2.Idx)))

/-- Window 14 stages its array whole. -/
theorem block_b6 (t : Fin cfg0.N) (i : Fin 1) (o : Fin 2) :
    iblk m c 14 t (ix2 i o : S1x2.Idx) = V m c main_v15 (ix2 i o : S1x2.Idx) := by
  have h : ∀ t : Fin grid0.N, ∀ a, win0_14.index t a = 0 := by decide +kernel
  blk_simp [iblk]
  exact congrArg (V m c main_v15) (funext fun a => Fin.ext
    (Pipeline.Window.rect_emb_val_of_index_zero win0_14 t a (h t a) (ix2 i o : S1x2.Idx)))

/-- The network's parameters as the arrays @main is launched with hold them. -/
def netParams (w1 : FVec Ideal S20x13 .f32) (b1 : FVec Ideal S20 .f32) (w2 : FVec Ideal S100x20 .f32)
    (b2 : FVec Ideal S100 .f32) (w3 : FVec Ideal S100x100 .f32) (b3 : FVec Ideal S100 .f32)
    (w4 : FVec Ideal S20x200 .f32) (b4 : FVec Ideal S20 .f32) (w5 : FVec Ideal S10x20 .f32)
    (b5 : FVec Ideal S10 .f32) (w6 : FVec Ideal S2x10 .f32) (b6 : FVec Ideal S2 .f32) : Params where
  W1 o i := w1 (ix2 o i)
  b1 o := b1 (ix1 o)
  W2 o i := w2 (ix2 o i)
  b2 o := b2 (ix1 o)
  W3 o i := w3 (ix2 o i)
  b3 o := b3 (ix1 o)
  W4 o i := w4 (ix2 o i)
  b4 o := b4 (ix1 o)
  W5 o i := w5 (ix2 o i)
  b5 o := b5 (ix1 o)
  W6 o i := w6 (ix2 o i)
  b6 o := b6 (ix1 o)

/-- The parameters every block sees are the launched ones. -/
theorem blockParams_eq (t : Fin cfg0.N) : blockParams m c t
    = netParams (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  simp only [blockParams, params, netParams, Params.mk.injEq]
  refine ⟨?_, ?_, ?_, ?_, ?_, ?_, ?_, ?_, ?_, ?_, ?_, ?_⟩
  · funext o i; exact (block_w1 m c t i o).trans (V_w1 m c i o)
  · funext o; exact (block_b1 m c t 0 o).trans (V_b1 m c o)
  · funext o i; exact (block_w2 m c t i o).trans (V_w2 m c i o)
  · funext o; exact (block_b2 m c t 0 o).trans (V_b2 m c o)
  · funext o i; exact (block_w3 m c t i o).trans (V_w3 m c i o)
  · funext o; exact (block_b3 m c t 0 o).trans (V_b3 m c o)
  · funext o i
    by_cases h : i.val < 100
    · rw [dif_pos h]; exact (block_w4a m c t ⟨i.val, h⟩ o).trans (V_w4a m c ⟨i.val, h⟩ o)
    · rw [dif_neg h]
      refine (block_w4b m c t ⟨i.val - 100, by omega⟩ o).trans ((V_w4b m c ⟨i.val - 100, by omega⟩ o).trans ?_)
      have e : (⟨100 + (i.val - 100), by omega⟩ : Fin 200) = i := Fin.ext (by show 100 + (i.val - 100) = i.val; omega)
      exact congrArg (fun i : Fin 200 => m ((c : Thread nD τ).loc main_arg7) (ix2 o i : S20x200.Idx)) e
  · funext o; exact (block_b4 m c t 0 o).trans (V_b4 m c o)
  · funext o i; exact (block_w5 m c t i o).trans (V_w5 m c i o)
  · funext o; exact (block_b5 m c t 0 o).trans (V_b5 m c o)
  · funext o i; exact (block_w6 m c t i o).trans (V_w6 m c i o)
  · funext o; exact (block_b6 m c t 0 o).trans (V_b6 m c o)

/-- Every point writes its block back. -/
theorem flush_out (t : Fin cfg0.N) : (cfg0.win 15).flush t = true :=
  (by decide +kernel : ∀ t : Fin grid0.N, win0_15.flush t = true) t

/-- The result at batch `2t + b` is what point `t` left at batch `b` of its block. -/
theorem result_apply (t : Fin cfg0.N) (n : Fin 8) (b : Fin 2) (hn : n.val = 2 * t.val + b.val) (r : Fin 2048) (j : Fin 2) :
    (dats m 0 c).arrAt 15 cfg0.N (ix3 n r j : S8x2048x2.Idx) = outsAt0 m c t (ix3 b r j : S2x2048x2.Idx) := by
  have h := congrFun (Cert.KernelIdeal.Value.blocks15 m c t (flush_out t)) (ix3 b r j : S2x2048x2.Idx)
  rw [Cert.KernelIdeal.Value.flushed15] at h
  blk_simp at h
  refine Eq.trans ?_ h
  exact congrArg ((dats m 0 c).arrAt 15 cfg0.N) (emb_out t n b hn r j).symm

end Cert.PointNet

end
-- ==== Proof.Order.lean ====
/-
  Order facts about finite families of extended reals: successive strict minima, and how few entries of a family
  lie below a value once the family is halved into pairwise minima and pairwise maxima.
-/
module

public import Mathlib.Data.EReal.Basic
public import Mathlib.Data.Fintype.Lattice
public import Mathlib.Data.Fintype.EquivFin

@[expose] public section

noncomputable section

namespace Cert.PointNet

/-- The `n`-th strict minimum of a family: first the least entry, then the least entry strictly above the one before,
    with `⊤` once the entries are used up. -/
def nth {ι : Type} (f : ι → EReal) : ℕ → EReal
  | 0 => ⨅ i, f i
  | n + 1 => ⨅ i, if nth f n < f i then f i else ⊤

/-- How many entries of a family lie strictly below a value. -/
def below {ι : Type} [Fintype ι] (f : ι → EReal) (v : EReal) : ℕ := (Finset.univ.filter fun i => f i < v).card

/-- The infimum of a finite nonempty family is one of its entries. -/
theorem iInf_attained {ι : Type} [Finite ι] [Nonempty ι] (f : ι → EReal) : ∃ i, f i = ⨅ i, f i := by
  obtain ⟨i, hi⟩ := Finite.exists_min f
  exact ⟨i, le_antisymm (le_iInf hi) (iInf_le f i)⟩

/-- Each strict minimum is an entry of the family or `⊤`. -/
theorem nth_mem {ι : Type} [Finite ι] [Nonempty ι] (f : ι → EReal) (n : ℕ) : (∃ i, f i = nth f n) ∨ nth f n = ⊤ := by
  cases n with
  | zero => exact .inl (iInf_attained f)
  | succ n =>
    obtain ⟨i, hi⟩ := iInf_attained fun i => if nth f n < f i then f i else ⊤
    by_cases h : nth f n < f i
    · exact .inl ⟨i, (if_pos h).symm.trans hi⟩
    · exact .inr (hi.symm.trans (if_neg h))

/-- An entry is met by the time `n`, or at least `n + 1` entries lie at or below the `n`-th strict minimum, itself
    below that entry. -/
theorem nth_progress {ι : Type} [Fintype ι] [Nonempty ι] (f : ι → EReal) (i₀ : ι) (n : ℕ) :
    (∃ m ≤ n, nth f m = f i₀) ∨
      (nth f n < f i₀ ∧ n + 1 ≤ (Finset.univ.filter fun i => f i ≤ nth f n).card) := by
  classical
  induction n with
  | zero =>
    by_cases h : nth f 0 = f i₀
    · exact .inl ⟨0, le_rfl, h⟩
    · right
      have hle : nth f 0 ≤ f i₀ := iInf_le f i₀
      refine ⟨lt_of_le_of_ne hle h, ?_⟩
      obtain ⟨i, hi⟩ := iInf_attained f
      exact Finset.card_pos.2 ⟨i, Finset.mem_filter.2 ⟨Finset.mem_univ _, hi.le⟩⟩
  | succ n ih =>
    rcases ih with ⟨m, hm, e⟩ | ⟨hlt, hcard⟩
    · exact .inl ⟨m, hm.trans (Nat.le_succ n), e⟩
    · by_cases h : nth f (n + 1) = f i₀
      · exact .inl ⟨n + 1, le_rfl, h⟩
      · right
        have hle : nth f (n + 1) ≤ f i₀ := by
          refine (iInf_le _ i₀).trans ?_
          simp only [if_pos hlt, le_refl]
        have hlt' := lt_of_le_of_ne hle h
        refine ⟨hlt', ?_⟩
        obtain ⟨i, hi⟩ := iInf_attained fun i => if nth f n < f i then f i else ⊤
        have hi' : (if nth f n < f i then f i else ⊤) = nth f (n + 1) := hi
        have hgt : nth f n < f i := by
          by_contra hc
          rw [if_neg hc] at hi'
          exact absurd (hi' ▸ hlt') (by simp)
        rw [if_pos hgt] at hi'
        have hsub : insert i (Finset.univ.filter fun i => f i ≤ nth f n) ⊆
            Finset.univ.filter fun i => f i ≤ nth f (n + 1) := by
          intro k hk
          rcases Finset.mem_insert.1 hk with rfl | hk
          · exact Finset.mem_filter.2 ⟨Finset.mem_univ _, hi'.le⟩
          · exact Finset.mem_filter.2 ⟨Finset.mem_univ _, (Finset.mem_filter.1 hk).2.trans (hgt.le.trans hi'.le)⟩
        have hnot : i ∉ Finset.univ.filter fun i => f i ≤ nth f n := by
          intro hk; exact absurd (Finset.mem_filter.1 hk).2 (not_le.2 hgt)
        have := Finset.card_le_card hsub
        rw [Finset.card_insert_of_notMem hnot] at this
        omega

/-- An entry with fewer than `k` entries below it is one of the first `k` strict minima. -/
theorem nth_of_below {ι : Type} [Fintype ι] [Nonempty ι] (f : ι → EReal) (i₀ : ι) (k : ℕ) (h : below f (f i₀) < k) :
    ∃ m < k, nth f m = f i₀ := by
  rcases nth_progress f i₀ (k - 1) with ⟨m, hm, e⟩ | ⟨hlt, hcard⟩
  · exact ⟨m, by omega, e⟩
  · exfalso
    have hsub : (Finset.univ.filter fun i => f i ≤ nth f (k - 1)) ⊆ Finset.univ.filter fun i => f i < f i₀ := by
      intro i hi
      exact Finset.mem_filter.2 ⟨Finset.mem_univ _, lt_of_le_of_lt (Finset.mem_filter.1 hi).2 hlt⟩
    have := Finset.card_le_card hsub
    unfold below at h
    omega

/-- Of the pairwise minima and maxima of two families, as many entries lie below a value as of the families
    themselves. -/
theorem below_halves {ι : Type} [Fintype ι] (a b : ι → EReal) (v : EReal) :
    below (fun p => min (a p) (b p)) v + below (fun p => max (a p) (b p)) v = below a v + below b v := by
  classical
  unfold below
  rw [← Finset.card_union_add_card_inter (Finset.univ.filter fun i => a i < v)]
  congr 1
  · congr 1; ext i; simp
  · congr 1; ext i; simp

/-- No more maxima than minima lie below a value. -/
theorem below_max_le {ι : Type} [Fintype ι] (a b : ι → EReal) (v : EReal) :
    below (fun p => max (a p) (b p)) v ≤ below (fun p => min (a p) (b p)) v := by
  unfold below
  refine Finset.card_le_card fun i hi => ?_
  have h := (Finset.mem_filter.1 hi).2
  exact Finset.mem_filter.2 ⟨Finset.mem_univ _, lt_of_le_of_lt (min_le_max) h⟩

/-- An entry of either family is a pairwise minimum or a pairwise maximum. -/
theorem mem_halves {ι : Type} (a b : ι → EReal) (v : EReal) (h : (∃ p, a p = v) ∨ ∃ p, b p = v) :
    (∃ p, min (a p) (b p) = v) ∨ ∃ p, max (a p) (b p) = v := by
  rcases h with ⟨p, rfl⟩ | ⟨p, rfl⟩
  · rcases le_total (a p) (b p) with h | h
    · exact .inl ⟨p, min_eq_left h⟩
    · exact .inr ⟨p, max_eq_left h⟩
  · rcases le_total (a p) (b p) with h | h
    · exact .inr ⟨p, max_eq_right h⟩
    · exact .inl ⟨p, min_eq_right h⟩

/-- A pairwise minimum is an entry of either family. -/
theorem min_mem {ι : Type} (a b : ι → EReal) (p : ι) : (∃ q, a q = min (a p) (b p)) ∨ ∃ q, b q = min (a p) (b p) := by
  rcases le_total (a p) (b p) with h | h
  · exact .inl ⟨p, (min_eq_left h).symm⟩
  · exact .inr ⟨p, (min_eq_right h).symm⟩

/-- A pairwise maximum is an entry of either family. -/
theorem max_mem {ι : Type} (a b : ι → EReal) (p : ι) : (∃ q, a q = max (a p) (b p)) ∨ ∃ q, b q = max (a p) (b p) := by
  rcases le_total (a p) (b p) with h | h
  · exact .inr ⟨p, (max_eq_right h).symm⟩
  · exact .inl ⟨p, (max_eq_left h).symm⟩

/-- A family whose entries include `s 0 < s 1 < … < s N`, all its other entries being at least `s N`, has these as its
    first strict minima. -/
theorem nth_eq_of_least {ι : Type} (c : ι → EReal) (s : ℕ → EReal) (N : ℕ)
    (hs : ∀ j < N, s j < s (j + 1))
    (hin : ∀ j ≤ N, ∃ i, c i = s j)
    (hout : ∀ i, (∃ j ≤ N, c i = s j) ∨ s N ≤ c i) :
    ∀ j ≤ N, nth c j = s j := by
  have mono : ∀ k, ∀ j ≤ k, k ≤ N → s j ≤ s k := by
    intro k
    induction k with
    | zero => intro j hj _; rw [Nat.le_zero.1 hj]
    | succ k ih =>
      intro j hj hk
      rcases Nat.lt_or_ge j (k + 1) with h | h
      · exact (ih j (by omega) (by omega)).trans (hs k (by omega)).le
      · rw [show j = k + 1 by omega]
  intro j
  induction j with
  | zero =>
    intro _
    refine le_antisymm ?_ (le_iInf fun i => ?_)
    · obtain ⟨i, hi⟩ := hin 0 (by omega)
      exact (iInf_le c i).trans hi.le
    · rcases hout i with ⟨j, hj, e⟩ | h
      · rw [e]; exact mono j 0 (by omega) hj
      · exact (mono N 0 (by omega) le_rfl).trans h
  | succ j ih =>
    intro hj
    have e := ih (by omega)
    change (⨅ i, if nth c j < c i then c i else ⊤) = s (j + 1)
    rw [e]
    refine le_antisymm ?_ (le_iInf fun i => ?_)
    · obtain ⟨i, hi⟩ := hin (j + 1) hj
      refine (iInf_le _ i).trans ?_
      rw [if_pos (by rw [hi]; exact hs j (by omega)), hi]
    · by_cases h : s j < c i
      · rw [if_pos h]
        rcases hout i with ⟨k, hk, e'⟩ | h'
        · rw [e'] at h ⊢
          rcases Nat.lt_or_ge j k with hjk | hjk
          · exact mono k (j + 1) (by omega) hk
          · exact absurd h (not_lt.2 (mono j k hjk (by omega)))
        · exact (mono N (j + 1) hj le_rfl).trans h'
      · rw [if_neg h]; exact le_top

/-- The candidate families of the tournament: a row of two halves `a`, `b`, each itself split at the middle, goes to the
    minima and maxima of its pairs, and these go the same way once more. An entry of the row with fewer than ten entries
    below it is among ten strict minima of the lesser of the lesser, five of the greater of the lesser, five of the
    lesser of the greater or three of the greater of the greater. -/
theorem tournament {κ : Type} [Fintype κ] [Nonempty κ] (a₁ a₂ b₁ b₂ : κ → EReal) (v : EReal)
    (hv : (∃ p, a₁ p = v) ∨ (∃ p, a₂ p = v) ∨ (∃ p, b₁ p = v) ∨ ∃ p, b₂ p = v)
    (hb : below a₁ v + below a₂ v + (below b₁ v + below b₂ v) < 10) :
    (∃ m < 10, nth (fun p => min (min (a₁ p) (b₁ p)) (min (a₂ p) (b₂ p))) m = v) ∨
    (∃ m < 5, nth (fun p => max (min (a₁ p) (b₁ p)) (min (a₂ p) (b₂ p))) m = v) ∨
    (∃ m < 5, nth (fun p => min (max (a₁ p) (b₁ p)) (max (a₂ p) (b₂ p))) m = v) ∨
    (∃ m < 3, nth (fun p => max (max (a₁ p) (b₁ p)) (max (a₂ p) (b₂ p))) m = v) := by
  have h1 := below_halves a₁ b₁ v
  have h2 := below_halves a₂ b₂ v
  have g1 := below_max_le a₁ b₁ v
  have g2 := below_max_le a₂ b₂ v
  have k1 := below_halves (fun p => min (a₁ p) (b₁ p)) (fun p => min (a₂ p) (b₂ p)) v
  have k2 := below_halves (fun p => max (a₁ p) (b₁ p)) (fun p => max (a₂ p) (b₂ p)) v
  have l1 := below_max_le (fun p => min (a₁ p) (b₁ p)) (fun p => min (a₂ p) (b₂ p)) v
  have l2 := below_max_le (fun p => max (a₁ p) (b₁ p)) (fun p => max (a₂ p) (b₂ p)) v
  have hlow : ((∃ p, min (a₁ p) (b₁ p) = v) ∨ ∃ p, min (a₂ p) (b₂ p) = v) ∨
      ((∃ p, max (a₁ p) (b₁ p) = v) ∨ ∃ p, max (a₂ p) (b₂ p) = v) := by
    have m1 := mem_halves a₁ b₁ v
    have m2 := mem_halves a₂ b₂ v
    tauto
  rcases hlow with h | h
  · rcases mem_halves (fun p => min (a₁ p) (b₁ p)) (fun p => min (a₂ p) (b₂ p)) v h with ⟨p, rfl⟩ | ⟨p, rfl⟩
    · exact .inl (nth_of_below _ p 10 (by omega))
    · exact .inr (.inl (nth_of_below _ p 5 (by omega)))
  · rcases mem_halves (fun p => max (a₁ p) (b₁ p)) (fun p => max (a₂ p) (b₂ p)) v h with ⟨p, rfl⟩ | ⟨p, rfl⟩
    · exact .inr (.inr (.inl (nth_of_below _ p 5 (by omega))))
    · exact .inr (.inr (.inr (nth_of_below _ p 3 (by omega))))

end Cert.PointNet

end
-- ==== Proof.TileRows.lean ====
/-
  The selection part of one row tile read at an index: each row of the stored features is the point's coordinates and
  the strict minima of the row's candidates, the candidates strict minima of the halved row of distances.
-/
module

public import proofs.«01_k».proof.Proof.Tile
public import proofs.«01_k».proof.Proof.Order
public import Idealize.ShloMosaic.Lib.Pointwise
public import Idealize.ShloMosaic.Lib.ValueIdx
public import Idealize.ShloMosaic.Lib.Pipeline.Value

@[expose] public section

set_option maxRecDepth 16384

noncomputable section

namespace Cert.PointNet

open Cert.KernelIdeal Cert.KernelIdeal.Gen Idealize.ShloMosaic Idealize.SL.Sem

/-- The pattern of infinity denotes `⊤`. -/
theorem ofBits_inf : Ideal.ofBits .f32 0x7F800000#32 = ⊤ := by
  simp [Ideal.ofBits, Ideal.ieee, -EReal.coe_mul]

/-- A fold of minima from `⊤` over a finite family is its infimum. -/
theorem fold_min_eq_iInf {n : ℕ} (f : Fin n → EReal) : Finset.univ.fold min ⊤ f = ⨅ i, f i := by
  rw [← Finset.inf_univ_eq_iInf]; rfl

/-- The row `(b, r)` of a rank-3 block. -/
def row {n m k : ℕ} (d : (⟨3, ![n, m, k]⟩ : Shape).Idx → EReal) (b : Fin n) (r : Fin m) : Fin k → EReal :=
  fun i => d (ix3 b r i)

theorem least512_apply (d : FVec Ideal S2x1024x512 .f32) (b : Fin 2) (r : Fin 1024) :
    least512 d (ix3 b r 0) = ⨅ i, row d b r i := by
  unfold least512 col red512
  pointwise
  rw [ofBits_inf]
  exact fold_min_eq_iInf _

theorem least23_apply (d : FVec Ideal S2x1024x23 .f32) (b : Fin 2) (r : Fin 1024) :
    least23 d (ix3 b r 0) = ⨅ i, row d b r i := by
  unfold least23 col red23
  pointwise
  rw [ofBits_inf]
  exact fold_min_eq_iInf _

theorem next512_apply (d : FVec Ideal S2x1024x512 .f32) (m : FVec Ideal S2x1024x1 .f32) (b : Fin 2) (r : Fin 1024) :
    next512 d m (ix3 b r 0) = ⨅ i, if m (ix3 b r 0) < row d b r i then row d b r i else ⊤ := by
  unfold next512
  rw [least512_apply]
  refine iInf_congr fun i => ?_
  unfold row above512 infs512
  pointwise
  rw [ofBits_inf]

theorem next23_apply (d : FVec Ideal S2x1024x23 .f32) (m : FVec Ideal S2x1024x1 .f32) (b : Fin 2) (r : Fin 1024) :
    next23 d m (ix3 b r 0) = ⨅ i, if m (ix3 b r 0) < row d b r i then row d b r i else ⊤ := by
  unfold next23
  rw [least23_apply]
  refine iInf_congr fun i => ?_
  unfold row above23 infs23
  pointwise
  rw [ofBits_inf]

/-- The `n`-th strict minima of the rows of 512. -/
theorem chain512_apply (d : FVec Ideal S2x1024x512 .f32) (n : ℕ) (b : Fin 2) (r : Fin 1024) :
    chain512 d n (ix3 b r 0) = nth (row d b r) n := by
  induction n with
  | zero => exact least512_apply d b r
  | succ n ih => rw [chain512, next512_apply, ih]; rfl

/-- The `n`-th strict minima of the rows of 23. -/
theorem chain23_apply (d : FVec Ideal S2x1024x23 .f32) (n : ℕ) (b : Fin 2) (r : Fin 1024) :
    chain23 d n (ix3 b r 0) = nth (row d b r) n := by
  induction n with
  | zero => exact least23_apply d b r
  | succ n ih => rw [chain23, next23_apply, ih]; rfl

/-- The quarters of a row of 2048. -/
def quarter (f : Fin 2048 → EReal) (q : Fin 4) : Fin 512 → EReal := fun p => f ⟨q.val * 512 + p.val, by omega⟩

theorem pay54_row (R : FVec Ideal S2x5x2048 .f32) (L : FVec Ideal S2x1024x5 .f32) (b : Fin 2) (r : Fin 1024) :
    row (k0_pay54 R L) b r = fun p =>
      min (min (quarter (row (k0_pay47 R L) b r) 0 p) (quarter (row (k0_pay47 R L) b r) 2 p))
        (min (quarter (row (k0_pay47 R L) b r) 1 p) (quarter (row (k0_pay47 R L) b r) 3 p)) := by
  funext p
  unfold row quarter
  pointwise [k0_pay54, k0_pay52, k0_pay53, k0_pay50, k0_pay48, k0_pay49]
  simp only [← Nat.add_assoc, Nat.reduceAdd]

theorem pay55_row (R : FVec Ideal S2x5x2048 .f32) (L : FVec Ideal S2x1024x5 .f32) (b : Fin 2) (r : Fin 1024) :
    row (k0_pay55 R L) b r = fun p =>
      max (min (quarter (row (k0_pay47 R L) b r) 0 p) (quarter (row (k0_pay47 R L) b r) 2 p))
        (min (quarter (row (k0_pay47 R L) b r) 1 p) (quarter (row (k0_pay47 R L) b r) 3 p)) := by
  funext p
  unfold row quarter
  pointwise [k0_pay55, k0_pay52, k0_pay53, k0_pay50, k0_pay48, k0_pay49]
  simp only [← Nat.add_assoc, Nat.reduceAdd]

theorem pay32_row (R : FVec Ideal S2x5x2048 .f32) (L : FVec Ideal S2x1024x5 .f32) (b : Fin 2) (r : Fin 1024) :
    row (k0_pay32 (k0_pay51 R L)) b r = fun p =>
      min (max (quarter (row (k0_pay47 R L) b r) 0 p) (quarter (row (k0_pay47 R L) b r) 2 p))
        (max (quarter (row (k0_pay47 R L) b r) 1 p) (quarter (row (k0_pay47 R L) b r) 3 p)) := by
  funext p
  unfold row quarter
  pointwise [k0_pay32, k0_pay30, k0_pay31, k0_pay51, k0_pay48, k0_pay49]
  simp only [← Nat.add_assoc, Nat.reduceAdd]

theorem pay33_row (R : FVec Ideal S2x5x2048 .f32) (L : FVec Ideal S2x1024x5 .f32) (b : Fin 2) (r : Fin 1024) :
    row (k0_pay33 (k0_pay51 R L)) b r = fun p =>
      max (max (quarter (row (k0_pay47 R L) b r) 0 p) (quarter (row (k0_pay47 R L) b r) 2 p))
        (max (quarter (row (k0_pay47 R L) b r) 1 p) (quarter (row (k0_pay47 R L) b r) 3 p)) := by
  funext p
  unfold row quarter
  pointwise [k0_pay33, k0_pay30, k0_pay31, k0_pay51, k0_pay48, k0_pay49]
  simp only [← Nat.add_assoc, Nat.reduceAdd]

/-- A block of 23 columns, read at an index. -/
theorem cand_apply (c0 c1 c2 c3 c4 c5 c6 c7 c8 c9 c10 c11 c12 c13 c14 c15 c16 c17 c18 c19 c20 c21 c22 : FVec Ideal S2x1024x1 .f32) (b : Fin 2) (r : Fin 1024) (k : Fin 23) :
    cand c0 c1 c2 c3 c4 c5 c6 c7 c8 c9 c10 c11 c12 c13 c14 c15 c16 c17 c18 c19 c20 c21 c22 (ix3 b r k) = (![c0, c1, c2, c3, c4, c5, c6, c7, c8, c9, c10, c11, c12, c13, c14, c15, c16, c17, c18, c19, c20, c21, c22] : Fin 23 → FVec Ideal S2x1024x1 .f32) k (ix3 b r 0) := by
  refine concatenate_ofFn_apply (t := S2x1024x23) (s₁ := S2x1024x1) 2
    (![c0, c1, c2, c3, c4, c5, c6, c7, c8, c9, c10, c11, c12, c13, c14, c15, c16, c17, c18, c19, c20, c21, c22] : Fin 23 → FVec Ideal S2x1024x1 .f32)
    concatenates_S2x1024x1_S2x1024x1_S2x1024x1_S2x1024x1_S2x1024x1_S2x1024x1_S2x1024x1_S2x1024x1_S2x1024x1_S2x1024x1_S2x1024x1_S2x1024x1_S2x1024x1_S2x1024x1_S2x1024x1_S2x1024x1_S2x1024x1_S2x1024x1_S2x1024x1_S2x1024x1_S2x1024x1_S2x1024x1_S2x1024x1_S2x1024x23_d2
    rfl 1 rfl (ix3 b r k) k (Nat.div_one _) (ix3 b r 0) (Nat.mod_one _).symm ?_
  intro a ha
  match a with
  | ⟨0, _⟩ => rfl
  | ⟨1, _⟩ => rfl
  | ⟨2, _⟩ => exact absurd rfl ha

/-- A point's features, read at an index: three coordinates, then the ten columns. -/
theorem feat_apply (x : Vec Ideal S2x1024x3 .f32) (c0 c1 c2 c3 c4 c5 c6 c7 c8 c9 : FVec Ideal S2x1024x1 .f32) (b : Fin 2) (r : Fin 1024)
    (q : Fin 13) :
    feat x c0 c1 c2 c3 c4 c5 c6 c7 c8 c9 (ix3 b r q) = if h : q.val < 3 then x (ix3 b r ⟨q.val, h⟩)
      else (![c0, c1, c2, c3, c4, c5, c6, c7, c8, c9] : Fin 10 → FVec Ideal S2x1024x1 .f32) ⟨q.val - 3, by omega⟩ (ix3 b r 0) := by
  unfold feat
  pointwise
  fin_vals q with hq
  all_goals (simp only [hq, Nat.reduceSub, Nat.reduceLT, ↓reduceDIte]; try rfl)

end Cert.PointNet

end
-- ==== Proof.Select.lean ====
/-
  What the selection finds: when the ten least distances of a row are strictly increasing, the tournament keeps them and
  the ten columns of the features are these distances.
-/
module

public import proofs.«01_k».proof.Proof.TileRows

@[expose] public section

set_option maxRecDepth 16384

noncomputable section

namespace Cert.PointNet

open Cert.KernelIdeal Cert.KernelIdeal.Gen Idealize.ShloMosaic Idealize.SL.Sem

/-- The entries of a row of 2048 below a value are those of its four quarters. -/
theorem below_quarters (f : Fin 2048 → EReal) (v : EReal) :
    below (quarter f 0) v + below (quarter f 1) v + (below (quarter f 2) v + below (quarter f 3) v) = below f v := by
  have e : ∀ q : Fin 4, below (quarter f q) v = ∑ p : Fin 512, if f (finProdFinEquiv (m := 4) (n := 512) (q, p)) < v then 1 else 0 := by
    intro q
    unfold below
    rw [Finset.card_filter]
    refine Finset.sum_congr rfl fun p _ => ?_
    have : (⟨q.val * 512 + p.val, by omega⟩ : Fin 2048) = finProdFinEquiv (m := 4) (n := 512) (q, p) :=
      Fin.ext (by simp [finProdFinEquiv]; omega)
    unfold quarter
    rw [this]
  have h : below f v = ∑ i : Fin (4 * 512), if f i < v then 1 else 0 := by
    unfold below; rw [Finset.card_filter]
  rw [h, ← (finProdFinEquiv (m := 4) (n := 512)).sum_comp, Fintype.sum_prod_type, Fin.sum_univ_four, e, e, e, e]
  omega

/-- An entry of a row of 2048 is an entry of one of its quarters. -/
theorem mem_quarters (f : Fin 2048 → EReal) (v : EReal) (h : ∃ i, f i = v) :
    (∃ p, quarter f 0 p = v) ∨ (∃ p, quarter f 1 p = v) ∨ (∃ p, quarter f 2 p = v) ∨ ∃ p, quarter f 3 p = v := by
  obtain ⟨i, rfl⟩ := h
  have hq : i.val / 512 < 4 := by omega
  have key : quarter f ⟨i.val / 512, hq⟩ ⟨i.val % 512, Nat.mod_lt _ (by norm_num)⟩ = f i := by
    unfold quarter; congr 1; exact Fin.ext (by simp; omega)
  generalize (⟨i.val / 512, hq⟩ : Fin 4) = q at key
  match q with
  | 0 => exact .inl ⟨_, key⟩
  | 1 => exact .inr (.inl ⟨_, key⟩)
  | 2 => exact .inr (.inr (.inl ⟨_, key⟩))
  | 3 => exact .inr (.inr (.inr ⟨_, key⟩))

/-- A strict minimum of a family drawn from a row is one of the ten least or at least the tenth. -/
theorem nth_least_or_le {κ ι : Type} [Finite κ] [Nonempty κ] (f : ι → EReal) (s : ℕ → EReal)
    (hout : ∀ i, (∃ j ≤ 9, f i = s j) ∨ s 9 ≤ f i) (g : κ → EReal) (hg : ∀ p, ∃ i, f i = g p) (m : ℕ) :
    (∃ j ≤ 9, nth g m = s j) ∨ s 9 ≤ nth g m := by
  rcases nth_mem g m with ⟨p, hp⟩ | h
  · obtain ⟨i, hi⟩ := hg p
    rw [← hp, ← hi]; exact hout i
  · exact .inr (h ▸ le_top)

/-- The lesser of two entries of a row, or the greater, is an entry of the row. -/
theorem pick {ι : Type} {f : ι → EReal} {x y : EReal} (hx : ∃ i, f i = x) (hy : ∃ i, f i = y) :
    (∃ i, f i = min x y) ∧ ∃ i, f i = max x y := by
  rcases le_total x y with h | h
  · exact ⟨by rwa [min_eq_left h], by rwa [max_eq_right h]⟩
  · exact ⟨by rwa [min_eq_right h], by rwa [max_eq_left h]⟩

/-- A block of 23 columns given as a family, read at an index. -/
theorem cand_family (g : Fin 23 → FVec Ideal S2x1024x1 .f32) (b : Fin 2) (r : Fin 1024) (k : Fin 23) :
    cand (g 0) (g 1) (g 2) (g 3) (g 4) (g 5) (g 6) (g 7) (g 8) (g 9) (g 10) (g 11) (g 12) (g 13) (g 14) (g 15) (g 16) (g 17) (g 18) (g 19) (g 20) (g 21) (g 22) (ix3 b r k) = g k (ix3 b r 0) := by
  rw [cand_apply]
  fin_cases k <;> rfl

/-- The candidate columns as a family. -/
def column (R : FVec Ideal S2x5x2048 .f32) (L : FVec Ideal S2x1024x5 .f32) (k : Fin 23) : FVec Ideal S2x1024x1 .f32 :=
  if k.val < 10 then chain512 (k0_pay54 R L) k.val
  else if k.val < 15 then chain512 (k0_pay55 R L) (k.val - 10)
  else if k.val < 20 then chain512 (k0_pay32 (k0_pay51 R L)) (k.val - 15)
  else chain512 (k0_pay33 (k0_pay51 R L)) (k.val - 20)

/-- The candidates of a row, one by one. -/
theorem cands_row (R : FVec Ideal S2x5x2048 .f32) (L : FVec Ideal S2x1024x5 .f32) (b : Fin 2) (r : Fin 1024) (k : Fin 23) :
    row (cands R L) b r k = if k.val < 10 then nth (row (k0_pay54 R L) b r) k.val
      else if k.val < 15 then nth (row (k0_pay55 R L) b r) (k.val - 10)
      else if k.val < 20 then nth (row (k0_pay32 (k0_pay51 R L)) b r) (k.val - 15)
      else nth (row (k0_pay33 (k0_pay51 R L)) b r) (k.val - 20) := by
  have e : row (cands R L) b r k = column R L k (ix3 b r 0) := cand_family (column R L) b r k
  rw [e]
  simp only [← chain512_apply]
  unfold column
  split_ifs <;> rfl

/-- When `s 0 < … < s 9` are a row's ten least distances, fewer than ten of its entries below each, the strict minima of
    its candidates are these. -/
theorem selected (R : FVec Ideal S2x5x2048 .f32) (L : FVec Ideal S2x1024x5 .f32) (b : Fin 2) (r : Fin 1024) (s : ℕ → EReal)
    (hs : ∀ j < 9, s j < s (j + 1)) (hin : ∀ j ≤ 9, ∃ i, row (k0_pay47 R L) b r i = s j)
    (hout : ∀ i, (∃ j ≤ 9, row (k0_pay47 R L) b r i = s j) ∨ s 9 ≤ row (k0_pay47 R L) b r i)
    (hb : ∀ j ≤ 9, below (row (k0_pay47 R L) b r) (s j) < 10) (n : ℕ) (hn : n ≤ 9) :
    chain23 (cands R L) n (ix3 b r 0) = s n := by
  have h54 := pay54_row R L b r
  have h55 := pay55_row R L b r
  have h32 := pay32_row R L b r
  have h33 := pay33_row R L b r
  rw [chain23_apply]
  generalize hf : row (k0_pay47 R L) b r = f at hin hout hb h54 h55 h32 h33
  have hq : ∀ q p, ∃ i, f i = quarter f q p := fun q p => ⟨_, rfl⟩
  refine nth_eq_of_least _ s 9 hs ?_ ?_ n hn
  · intro j hj
    have ht := tournament (quarter f 0) (quarter f 1) (quarter f 2) (quarter f 3) (s j) (mem_quarters f _ (hin j hj))
      (by rw [below_quarters]; exact hb j hj)
    rw [← h54, ← h55, ← h32, ← h33] at ht
    rcases ht with ⟨m, hm, e⟩ | ⟨m, hm, e⟩ | ⟨m, hm, e⟩ | ⟨m, hm, e⟩
    · refine ⟨⟨m, by omega⟩, (cands_row ..).trans (Eq.trans ?_ e)⟩
      rw [if_pos hm]
    · refine ⟨⟨10 + m, by omega⟩, (cands_row ..).trans (Eq.trans ?_ e)⟩
      rw [if_neg (by simp), if_pos (by simp; omega)]; simp
    · refine ⟨⟨15 + m, by omega⟩, (cands_row ..).trans (Eq.trans ?_ e)⟩
      rw [if_neg (by simp; omega), if_neg (by simp), if_pos (by simp; omega)]; simp
    · refine ⟨⟨20 + m, by omega⟩, (cands_row ..).trans (Eq.trans ?_ e)⟩
      rw [if_neg (by simp; omega), if_neg (by simp; omega), if_neg (by simp)]; simp
  · have g54 := nth_least_or_le f s hout (row (k0_pay54 R L) b r) fun p => by
      rw [h54]; exact (pick (pick (hq 0 p) (hq 2 p)).1 (pick (hq 1 p) (hq 3 p)).1).1
    have g55 := nth_least_or_le f s hout (row (k0_pay55 R L) b r) fun p => by
      rw [h55]; exact (pick (pick (hq 0 p) (hq 2 p)).1 (pick (hq 1 p) (hq 3 p)).1).2
    have g32 := nth_least_or_le f s hout (row (k0_pay32 (k0_pay51 R L)) b r) fun p => by
      rw [h32]; exact (pick (pick (hq 0 p) (hq 2 p)).2 (pick (hq 1 p) (hq 3 p)).2).1
    have g33 := nth_least_or_le f s hout (row (k0_pay33 (k0_pay51 R L)) b r) fun p => by
      rw [h33]; exact (pick (pick (hq 0 p) (hq 2 p)).2 (pick (hq 1 p) (hq 3 p)).2).2
    intro k
    rw [cands_row]
    split_ifs
    · exact g54 _
    · exact g55 _
    · exact g32 _
    · exact g33 _

end Cert.PointNet

end
-- ==== Proof.Dist.lean ====
/-
  The distances of one row tile read at an index: the five-term product of [x, |x|², 1] with [-2y; 1; |y|²].
-/
module

public import proofs.«01_k».proof.Proof.Tile
public import Idealize.ShloMosaic.Lib.Pointwise
public import Idealize.ShloMosaic.Lib.ValueIdx
public import Idealize.ShloMosaic.Lib.Pipeline.Value

@[expose] public section

set_option maxRecDepth 16384

noncomputable section

namespace Cert.PointNet

open Cert.KernelIdeal Cert.KernelIdeal.Gen Idealize.ShloMosaic Idealize.SL.Sem

theorem left_apply (x : Vec Ideal S2x1024x3 .f32) (b : Fin 2) (r : Fin 1024) (k : Fin 5) :
    k0_pay46 x (ix3 b r k) = if h : k.val < 3 then x (ix3 b r ⟨k.val, h⟩)
      else if k.val < 4 then ∑ e : Fin 3, x (ix3 b r e) * x (ix3 b r e) else 1 := by
  pointwise [k0_pay46]
  fin_vals k with hk
  all_goals simp only [hk, Nat.reduceSub, Nat.reduceLT, ↓reduceDIte, ↓reduceIte]

theorem right_apply (xc : Vec Ideal S2x3x2048 .f32) (b : Fin 2) (r : Fin 2048) (k : Fin 5) :
    k0_pay2 xc (ix3 b k r) = if h : k.val < 3 then Ideal.ofBits .f32 0xC0000000#32 * xc (ix3 b ⟨k.val, h⟩ r)
      else if k.val < 4 then 1 else ∑ e : Fin 3, xc (ix3 b e r) * xc (ix3 b e r) := by
  pointwise [k0_pay2]
  fin_vals k with hk
  all_goals simp only [hk, Nat.reduceSub, Nat.reduceLT, ↓reduceDIte, ↓reduceIte]

theorem dist_apply (R : FVec Ideal S2x5x2048 .f32) (L : FVec Ideal S2x1024x5 .f32) (b : Fin 2) (r : Fin 1024) (i : Fin 2048) :
    k0_pay47 R L (ix3 b r i) = ∑ k : Fin 5, L (ix3 b r k) * R (ix3 b k i) := by
  pointwise [k0_pay47]

end Cert.PointNet

end
-- ==== Proof.TopK.lean ====
/-
  The top-k of a row: the values are the row's elements at the first positions of a permutation that sorts the row
  downwards; what that says of the ten smallest distances of a row.
-/
module

public import proofs.«01_k».proof.Proof.Order
public import Idealize.ShloMosaic.Lib.SortFacts
public import Idealize.ShloMosaic.Lib.Pointwise
public import proofs.«01_k».proof.ReferenceIdeal

@[expose] public section

set_option maxRecDepth 16384

noncomputable section

namespace Cert.PointNet

open Cert.ReferenceIdeal Idealize.ShloMosaic Idealize.ShloMosaic.TcCoe

/-- The permutation that sorts a row downwards, equal elements kept in index order. -/
def order {N : ℕ} (g : Fin N → EReal) : Fin N → Fin N :=
  sortedFrom fun k k' => Ideal.cmp .ogt (g k) (g k') == 1#1

theorem order_bijective {N : ℕ} (g : Fin N → EReal) : Function.Bijective (order g) :=
  ⟨sortedFrom_injective _, sortedFrom_surjective _⟩

theorem cmp_ogt (a b : EReal) : (Ideal.cmp .ogt a b == 1#1) = decide (b < a) := by
  by_cases h : b < a <;> simp [Ideal.cmp, h]

/-- Along the permutation the row does not increase. -/
theorem order_antitone {N : ℕ} (g : Fin N → EReal) {i j : Fin N} (h : i ≤ j) : g (order g j) ≤ g (order g i) := by
  rcases h.eq_or_lt with rfl | h
  · exact le_rfl
  · have := sortedFrom_noInversion (fun k k' => Ideal.cmp .ogt (g k) (g k') == 1#1)
      (fun k k' => Ideal.cmp .ogt (g k) (g k') == 1#1)
      (fun a b h => by
        rw [cmp_ogt, decide_eq_true_eq] at h
        rw [cmp_ogt, decide_eq_false_iff_not]
        exact not_lt.2 h.le)
      (fun a b h => h)
      (fun a b c h₁ h₂ => by
        rw [cmp_ogt, decide_eq_false_iff_not, not_lt] at h₁ h₂ ⊢
        exact h₁.trans h₂) i j h
    rw [cmp_ogt, decide_eq_false_iff_not, not_lt] at this
    exact this

/-- The values of a top-k along an axis, at an index: the operand at the position the sorting permutation gives. -/
theorem topK_value {s t : Shape} {α : Type} (d : Nat) (gt : α → α → BitVec 1) (x : s.Idx → α)
    (h : s.Slices (fun _ => 0) t) (hd : d < s.rank) (i : t.Idx) (j : s.Idx)
    (hj : ∀ a, (j a).val = (i (a.cast h.1.symm)).val) :
    (Host.topK t d gt x h).1 i
      = x (j.along ⟨d, hd⟩ (sortedFrom (fun k k' => gt (x (j.along ⟨d, hd⟩ k)) (x (j.along ⟨d, hd⟩ k')) == 1#1) (j ⟨d, hd⟩))) := by
  have hs : ∀ (β : Type) (y : s.Idx → β), (Host.sort2 s d (fun l r : α × β => gt l.1 r.1) x y).1 j
      = x (j.along ⟨d, hd⟩ (sortedFrom (fun k k' => gt (x (j.along ⟨d, hd⟩ k)) (x (j.along ⟨d, hd⟩ k')) == 1#1) (j ⟨d, hd⟩))) := by
    intro β y
    unfold Host.sort2
    rw [dif_pos hd]
  rw [← hs _ (fun i : s.Idx => if hd : d < s.rank then iotaInDim s 32 ⟨d, hd⟩ i else 0#32)]
  unfold Host.topK
  dsimp only
  unfold extractStridedSlice
  refine congrArg _ (funext fun a => Fin.ext ?_)
  rw [hj a]
  exact Nat.zero_add _

/-- Moving the last coordinate of an index of an array of rows. -/
theorem along_last (hd : 2 < S8x2048x2048.rank) (n : Fin 8) (r k : Fin 2048) (i : Fin (S8x2048x2048.size ⟨2, hd⟩)) :
    (ix3 n r k : S8x2048x2048.Idx).along ⟨2, hd⟩ i = (ix3 n r (show Fin 2048 from i) : S8x2048x2048.Idx) := by
  refine funext fun a => ?_
  unfold Shape.Idx.along
  fin_cases a
  · exact Function.update_of_ne (fun e => absurd (show (0 : ℕ) = 2 from congrArg Fin.val e) (by decide)) _ _
  · exact Function.update_of_ne (fun e => absurd (show (1 : ℕ) = 2 from congrArg Fin.val e) (by decide)) _ _
  · exact Function.update_self _ _ _

/-- The top-k of an array of rows, at an index: the row's element at the position that the sorting permutation gives. -/
theorem topK_apply (x : FVec Ideal S8x2048x2048 .f32) (n : Fin 8) (r : Fin 2048) (q : Fin 10)
    (h : S8x2048x2048.Slices (fun _ => 0) S8x2048x10) :
    (Host.topK S8x2048x10 2 (FloatOps.cmpfTotal (F := Ideal) (φ := .f32) .gt) x h).1 (ix3 n r q)
      = x (ix3 n r (order (fun i => x (ix3 n r i)) ⟨q.val, by omega⟩)) := by
  refine (topK_value 2 _ x h (by decide) (ix3 n r q : S8x2048x10.Idx)
    (ix3 n r (⟨q.val, by omega⟩ : Fin 2048) : S8x2048x2048.Idx) ?_).trans ?_
  · intro a
    fin_cases a <;> rfl
  · rw [along_last]
    refine congrArg (fun k : Fin 2048 => x (ix3 n r k)) ?_
    refine congrArg (fun B : Fin 2048 → Fin 2048 → Bool => sortedFrom B (⟨q.val, by omega⟩ : Fin 2048)) ?_
    refine funext fun k => funext fun k' => ?_
    rw [along_last, along_last]
    rfl

/-- The ten smallest elements of a row that the sorting permutation of its negation lists: facts of the `j`-th. -/
structure TenLeast (D : Fin 2048 → EReal) (s : ℕ → EReal) : Prop where
  mem : ∀ j, j ≤ 9 → ∃ i, D i = s j
  rest : ∀ i, (∃ j, j ≤ 9 ∧ D i = s j) ∨ s 9 ≤ D i
  below_lt : ∀ j, j ≤ 9 → below D (s j) < 10

theorem tenLeast (D : Fin 2048 → EReal) (e : Fin 2048 → Fin 2048) (he : Function.Bijective e)
    (hm : ∀ i j : Fin 2048, i ≤ j → D (e i) ≤ D (e j)) (s : ℕ → EReal)
    (hs : ∀ j (h : j ≤ 9), s j = D (e ⟨j, by omega⟩)) : TenLeast D s where
  mem j h := ⟨_, (hs j h).symm⟩
  rest i := by
    obtain ⟨k, rfl⟩ := he.2 i
    by_cases hk : k.val ≤ 9
    · exact Or.inl ⟨k.val, hk, (hs k.val hk).symm⟩
    · refine Or.inr ?_
      rw [hs 9 le_rfl]
      exact hm _ _ (Fin.mk_le_of_le_val (by omega))
  below_lt j h := by
    unfold below
    refine lt_of_le_of_lt (Finset.card_le_card (t := (Finset.univ.filter fun k : Fin 2048 => k.val < j).image e) ?_) ?_
    · intro i hi
      obtain ⟨k, rfl⟩ := he.2 i
      refine Finset.mem_image.2 ⟨k, Finset.mem_filter.2 ⟨Finset.mem_univ _, ?_⟩, rfl⟩
      by_contra hk
      have hlt := (Finset.mem_filter.1 hi).2
      rw [hs j h] at hlt
      exact absurd (hm _ _ (Fin.mk_le_of_le_val (by omega))) (not_le.2 hlt)
    · refine lt_of_le_of_lt Finset.card_image_le ?_
      refine lt_of_le_of_lt (Finset.card_le_card_of_injOn (t := Finset.range j) Fin.val ?_ ?_) ?_
      · intro k hk
        exact Finset.mem_coe.2 (Finset.mem_range.2 (Finset.mem_filter.1 (Finset.mem_coe.1 hk)).2)
      · exact fun a _ b _ h => Fin.ext h
      · rw [Finset.card_range]; omega

end Cert.PointNet

end
-- ==== Proof.Reference.lean ====
/-
  What the reference computes, read at an index: the features of a point, the network's layers, the pooled mean, the
  logits and their log-softmax.
-/
module

public import proofs.«01_k».proof.Proof.Gen.ReferenceIdeal.Read
public import proofs.«01_k».proof.Proof.Net
public import proofs.«01_k».proof.Proof.TopK
public import proofs.«01_k».proof.Proof.Head
public import Idealize.ShloMosaic.Lib.Pointwise

@[expose] public section

set_option maxRecDepth 16384

noncomputable section

namespace Cert.PointNet

open Cert.ReferenceIdeal Cert.ReferenceIdeal.Read Idealize.ShloMosaic Idealize.ShloMosaic.TcCoe
open Idealize.ShloMosaic.Tactic

variable (x0 : FVec Ideal S8x2048x3 .f32) (x1 : FVec Ideal S20x13 .f32) (x2 : FVec Ideal S20 .f32)
  (x3 : FVec Ideal S100x20 .f32) (x4 : FVec Ideal S100 .f32) (x5 : FVec Ideal S100x100 .f32) (x6 : FVec Ideal S100 .f32)
  (x7 : FVec Ideal S20x200 .f32) (x8 : FVec Ideal S20 .f32) (x9 : FVec Ideal S10x20 .f32) (x10 : FVec Ideal S10 .f32)
  (x11 : FVec Ideal S2x10 .f32) (x12 : FVec Ideal S2 .f32)

/-- The network's parameters as the reference's arguments hold them. -/
def refParams : Params where
  W1 o i := x1 (ix2 o i)
  b1 o := x2 (ix1 o)
  W2 o i := x3 (ix2 o i)
  b2 o := x4 (ix1 o)
  W3 o i := x5 (ix2 o i)
  b3 o := x6 (ix1 o)
  W4 o i := x7 (ix2 o i)
  b4 o := x8 (ix1 o)
  W5 o i := x9 (ix2 o i)
  b5 o := x10 (ix1 o)
  W6 o i := x11 (ix2 o i)
  b6 o := x12 (ix1 o)

/-- A point's thirteen features as the reference forms them. -/
def refFeat (n : Fin 8) (r : Fin 2048) (q : Fin 13) : EReal :=
  if h : q.val < 3 then x0 (ix3 n r ⟨q.val, h⟩) else -(val_main_values (F := Ideal) x0 (ix3 n r (⟨q.val - 3, by omega⟩ : Fin 10) : S8x2048x10.Idx) : EReal)

/-- The transposed concatenation holds the features. -/
theorem ref_feat (n : Fin 8) (r : Fin 2048) (q : Fin 13) :
    val_main_v17 (F := Ideal) x0 (ix3 n q r : S8x13x2048.Idx) = refFeat x0 n r q := by
  unfold val_main_v17 val_main_v16 refFeat val_main_v15
  generalize val_main_values (F := Ideal) x0 = y
  pointwise

/-- The first layer. -/
theorem ref_conv1 (n : Fin 8) (o : Fin 20) (r : Fin 2048) :
    val_main_v23 (F := Ideal) x0 x1 x2 (ix3 n o r : S8x20x2048.Idx)
      = lay (fun o i => x1 (ix2 o i)) (fun o => x2 (ix1 o)) (refFeat x0 n r) o := by
  have h := ref_feat x0 n r
  unfold val_main_v23 val_main_v22 val_main_v19 val_main_v18 val_main_v21 val_main_v20 val_main_call0_v0 val_main_call0_cst
  generalize val_main_v17 (F := Ideal) x0 = y at h
  pointwise
  simp only [h]
  rfl

/-- The second layer: the hidden features. -/
theorem ref_conv2 (n : Fin 8) (o : Fin 100) (r : Fin 2048) :
    val_main_v29 (F := Ideal) x0 x1 x2 x3 x4 (ix3 n o r : S8x100x2048.Idx)
      = hidden (refParams x1 x2 x3 x4 x5 x6 x7 x8 x9 x10 x11 x12) (refFeat x0 n r) o := by
  have h := fun o => ref_conv1 x0 x1 x2 n o r
  unfold val_main_v29 val_main_v28 val_main_v25 val_main_v24 val_main_v27 val_main_v26 val_main_call1_v0 val_main_call1_cst
  generalize val_main_v23 (F := Ideal) x0 x1 x2 = y at h
  pointwise
  simp only [h]
  rfl

/-- The third layer. -/
theorem ref_conv3 (n : Fin 8) (o : Fin 100) (r : Fin 2048) :
    val_main_v35 (F := Ideal) x0 x1 x2 x3 x4 x5 x6 (ix3 n o r : S8x100x2048.Idx)
      = lay (refParams x1 x2 x3 x4 x5 x6 x7 x8 x9 x10 x11 x12).W3 (refParams x1 x2 x3 x4 x5 x6 x7 x8 x9 x10 x11 x12).b3 (hidden (refParams x1 x2 x3 x4 x5 x6 x7 x8 x9 x10 x11 x12) (refFeat x0 n r)) o := by
  have h := fun o => ref_conv2 x0 x1 x2 x3 x4 x5 x6 x7 x8 x9 x10 x11 x12 n o r
  unfold val_main_v35 val_main_v34 val_main_v31 val_main_v30 val_main_v33 val_main_v32 val_main_call2_v0 val_main_call2_cst
  generalize val_main_v29 (F := Ideal) x0 x1 x2 x3 x4 = y at h
  pointwise
  simp only [h]
  rfl

/-- The mean of the third layer over the points. -/
theorem ref_mean (n : Fin 8) (o : Fin 100) :
    val_main_v39 (F := Ideal) x0 x1 x2 x3 x4 x5 x6 (ix3 n o 0 : S8x100x1.Idx) = pool (refParams x1 x2 x3 x4 x5 x6 x7 x8 x9 x10 x11 x12) (refFeat x0 n) o := by
  have h := fun o r => ref_conv3 x0 x1 x2 x3 x4 x5 x6 x7 x8 x9 x10 x11 x12 n o r
  unfold val_main_v39 val_main_v38 val_main_cst_3 val_main_v37 val_main_v36 val_main_cst_2
  generalize val_main_v35 (F := Ideal) x0 x1 x2 x3 x4 x5 x6 = y at h
  pointwise
  simp only [h]
  rfl

/-- The mean repeated for every point. -/
theorem ref_pool (n : Fin 8) (o : Fin 100) (r : Fin 2048) :
    val_main_v42 (F := Ideal) x0 x1 x2 x3 x4 x5 x6 (ix3 n o r : S8x100x2048.Idx) = pool (refParams x1 x2 x3 x4 x5 x6 x7 x8 x9 x10 x11 x12) (refFeat x0 n) o := by
  have h := fun o => ref_mean x0 x1 x2 x3 x4 x5 x6 x7 x8 x9 x10 x11 x12 n o
  unfold val_main_v42 val_main_v41 val_main_v40
  generalize val_main_v39 (F := Ideal) x0 x1 x2 x3 x4 x5 x6 = y at h
  pointwise
  exact h o

/-- The hidden features of a point followed by the pooled ones. -/
theorem ref_joint (n : Fin 8) (i : Fin 200) (r : Fin 2048) :
    val_main_v43 (F := Ideal) x0 x1 x2 x3 x4 x5 x6 (ix3 n i r : S8x200x2048.Idx) = joint (refParams x1 x2 x3 x4 x5 x6 x7 x8 x9 x10 x11 x12) (refFeat x0 n) r i := by
  have h := fun o => ref_conv2 x0 x1 x2 x3 x4 x5 x6 x7 x8 x9 x10 x11 x12 n o r
  have h' := fun o => ref_pool x0 x1 x2 x3 x4 x5 x6 x7 x8 x9 x10 x11 x12 n o r
  unfold val_main_v43 joint
  generalize val_main_v29 (F := Ideal) x0 x1 x2 x3 x4 = y at h
  generalize val_main_v42 (F := Ideal) x0 x1 x2 x3 x4 x5 x6 = y' at h'
  pointwise
  simp only [h, h']

/-- The fourth layer. -/
theorem ref_conv4 (n : Fin 8) (o : Fin 20) (r : Fin 2048) :
    val_main_v49 (F := Ideal) x0 x1 x2 x3 x4 x5 x6 x7 x8 (ix3 n o r : S8x20x2048.Idx)
      = lay (refParams x1 x2 x3 x4 x5 x6 x7 x8 x9 x10 x11 x12).W4 (refParams x1 x2 x3 x4 x5 x6 x7 x8 x9 x10 x11 x12).b4 (joint (refParams x1 x2 x3 x4 x5 x6 x7 x8 x9 x10 x11 x12) (refFeat x0 n) r) o := by
  have h := fun o => ref_joint x0 x1 x2 x3 x4 x5 x6 x7 x8 x9 x10 x11 x12 n o r
  unfold val_main_v49 val_main_v48 val_main_v45 val_main_v44 val_main_v47 val_main_v46 val_main_call3_v0 val_main_call3_cst
  generalize val_main_v43 (F := Ideal) x0 x1 x2 x3 x4 x5 x6 = y at h
  pointwise
  simp only [h]
  rfl

/-- The fifth layer. -/
theorem ref_conv5 (n : Fin 8) (o : Fin 10) (r : Fin 2048) :
    val_main_v55 (F := Ideal) x0 x1 x2 x3 x4 x5 x6 x7 x8 x9 x10 (ix3 n o r : S8x10x2048.Idx)
      = lay (refParams x1 x2 x3 x4 x5 x6 x7 x8 x9 x10 x11 x12).W5 (refParams x1 x2 x3 x4 x5 x6 x7 x8 x9 x10 x11 x12).b5 (lay (refParams x1 x2 x3 x4 x5 x6 x7 x8 x9 x10 x11 x12).W4 (refParams x1 x2 x3 x4 x5 x6 x7 x8 x9 x10 x11 x12).b4 (joint (refParams x1 x2 x3 x4 x5 x6 x7 x8 x9 x10 x11 x12) (refFeat x0 n) r)) o := by
  have h := fun o => ref_conv4 x0 x1 x2 x3 x4 x5 x6 x7 x8 x9 x10 x11 x12 n o r
  unfold val_main_v55 val_main_v54 val_main_v51 val_main_v50 val_main_v53 val_main_v52 val_main_call4_v0 val_main_call4_cst
  generalize val_main_v49 (F := Ideal) x0 x1 x2 x3 x4 x5 x6 x7 x8 = y at h
  pointwise
  simp only [h]
  rfl

/-- The logits. -/
theorem ref_logits (n : Fin 8) (o : Fin 2) (r : Fin 2048) :
    val_main_v60 (F := Ideal) x0 x1 x2 x3 x4 x5 x6 x7 x8 x9 x10 x11 x12 (ix3 n o r : S8x2x2048.Idx)
      = logits (refParams x1 x2 x3 x4 x5 x6 x7 x8 x9 x10 x11 x12) (refFeat x0 n) r o := by
  have h := fun o => ref_conv5 x0 x1 x2 x3 x4 x5 x6 x7 x8 x9 x10 x11 x12 n o r
  unfold val_main_v60 val_main_v57 val_main_v56 val_main_v59 val_main_v58
  generalize val_main_v55 (F := Ideal) x0 x1 x2 x3 x4 x5 x6 x7 x8 x9 x10 = y at h
  pointwise
  simp only [h]
  rfl

/-- The greater of a point's logits. -/
theorem ref_top (n : Fin 8) (r : Fin 2048) :
    val_main_call5_v2 (F := Ideal) x0 x1 x2 x3 x4 x5 x6 x7 x8 x9 x10 x11 x12 (ix2 n r : S8x2048.Idx) = top (logits (refParams x1 x2 x3 x4 x5 x6 x7 x8 x9 x10 x11 x12) (refFeat x0 n) r) := by
  have h := fun o => ref_logits x0 x1 x2 x3 x4 x5 x6 x7 x8 x9 x10 x11 x12 n o r
  unfold val_main_call5_v2 val_main_call5_v1 val_main_call5_cst_0 val_main_call5_v0 val_main_call5_cst
  generalize val_main_v60 (F := Ideal) x0 x1 x2 x3 x4 x5 x6 x7 x8 x9 x10 x11 x12 = y at h
  pointwise
  rw [ofBits_neg_inf]
  simp only [h]
  exact max_eq_right bot_le

/-- The reference's result: the log-softmax of the logits. -/
theorem ref_result (n : Fin 8) (r : Fin 2048) (j : Fin 2) :
    val_main_v62 (F := Ideal) x0 x1 x2 x3 x4 x5 x6 x7 x8 x9 x10 x11 x12 (ix3 n r j : S8x2048x2.Idx)
      = logits (refParams x1 x2 x3 x4 x5 x6 x7 x8 x9 x10 x11 x12) (refFeat x0 n) r j - top (logits (refParams x1 x2 x3 x4 x5 x6 x7 x8 x9 x10 x11 x12) (refFeat x0 n) r)
        - Ideal.log (mass (logits (refParams x1 x2 x3 x4 x5 x6 x7 x8 x9 x10 x11 x12) (refFeat x0 n) r)) := by
  have h := fun o => ref_logits x0 x1 x2 x3 x4 x5 x6 x7 x8 x9 x10 x11 x12 n o r
  have ht := ref_top x0 x1 x2 x3 x4 x5 x6 x7 x8 x9 x10 x11 x12 n r
  unfold val_main_v62 val_main_v61 val_main_call5_v10 val_main_call5_v9 val_main_call5_v8 val_main_call5_v7 val_main_call5_cst_1
    val_main_call5_v6 val_main_call5_v5 val_main_call5_v4 val_main_call5_v3
  generalize val_main_v60 (F := Ideal) x0 x1 x2 x3 x4 x5 x6 x7 x8 x9 x10 x11 x12 = y at h
  generalize val_main_call5_v2 (F := Ideal) x0 x1 x2 x3 x4 x5 x6 x7 x8 x9 x10 x11 x12 = z at ht
  pointwise
  simp only [h, ht]
  rfl

/-- The squared distance of two points of a cloud, as the reference forms it. -/
def refDist (n : Fin 8) (r i : Fin 2048) : EReal :=
  Ideal.ofBits .f32 0xC0000000#32 * (∑ e : Fin 3, x0 (ix3 n r e) * x0 (ix3 n i e))
    + ∑ e : Fin 3, x0 (ix3 n r e) * x0 (ix3 n r e) + ∑ e : Fin 3, x0 (ix3 n i e) * x0 (ix3 n i e)

/-- The array of distances holds them. -/
theorem ref_dist (n : Fin 8) (r i : Fin 2048) :
    val_main_v13 (F := Ideal) x0 (ix3 n r i : S8x2048x2048.Idx) = refDist x0 n r i := by
  unfold val_main_v13 val_main_v12 val_main_v11 val_main_v10 val_main_v9 val_main_v8 val_main_v7 val_main_v6 val_main_v5
    val_main_v4 val_main_v3 val_main_v2 val_main_v1 val_main_v0 val_main_cst val_main_cst_0 val_main_cst_1 refDist
  pointwise

/-- The `q`-th value of the top-k is the negated distance at the position that the sorting permutation gives. -/
theorem ref_values (n : Fin 8) (r : Fin 2048) (q : Fin 10) :
    val_main_values (F := Ideal) x0 (ix3 n r q : S8x2048x10.Idx)
      = -(refDist x0 n r (order (fun i => -(refDist x0 n r i)) ⟨q.val, by omega⟩)) := by
  have h : ∀ i, val_main_v14 (F := Ideal) x0 (ix3 n r i : S8x2048x2048.Idx) = -(refDist x0 n r i) := fun i => by
    rw [← ref_dist]; rfl
  unfold val_main_values
  refine (topK_apply (val_main_v14 (F := Ideal) x0) n r q _).trans ?_
  simp only [h]

end Cert.PointNet

end
-- ==== Proof.Finite.lean ====
/-
  Real numbers among the extended reals: what stays real through the network, the squared distance in its two forms,
  and what becomes of it at an infinite point.
-/
module

public import proofs.«01_k».proof.Proof.Net
public import Mathlib.Data.EReal.Inv

@[expose] public section

noncomputable section

namespace Cert.PointNet

open Idealize.ShloMosaic

/-- An extended real that is a real number. -/
def IsReal (v : EReal) : Prop := ∃ r : ℝ, v = (r : EReal)

theorem isReal_of_ne {v : EReal} (h : v ≠ ⊤) (h' : v ≠ ⊥) : IsReal v := ⟨v.toReal, (EReal.coe_toReal h h').symm⟩

theorem IsReal.ne_top {v : EReal} : IsReal v → v ≠ ⊤ := by rintro ⟨r, rfl⟩; exact EReal.coe_ne_top r

theorem IsReal.ne_bot {v : EReal} : IsReal v → v ≠ ⊥ := by rintro ⟨r, rfl⟩; exact EReal.coe_ne_bot r

theorem isReal_zero : IsReal 0 := ⟨0, rfl⟩

theorem IsReal.add {a b : EReal} : IsReal a → IsReal b → IsReal (a + b) := by
  rintro ⟨r, rfl⟩ ⟨s, rfl⟩; exact ⟨r + s, (EReal.coe_add r s).symm⟩

theorem IsReal.mul {a b : EReal} : IsReal a → IsReal b → IsReal (a * b) := by
  rintro ⟨r, rfl⟩ ⟨s, rfl⟩; exact ⟨r * s, (EReal.coe_mul r s).symm⟩

theorem IsReal.max {a b : EReal} (ha : IsReal a) (hb : IsReal b) : IsReal (max a b) := by
  rcases max_choice a b with h | h <;> rw [h] <;> assumption

theorem IsReal.neg {a : EReal} : IsReal a → IsReal (-a) := by
  rintro ⟨r, rfl⟩; exact ⟨-r, (EReal.coe_neg r).symm⟩

theorem IsReal.sum {ι : Type} (s : Finset ι) {f : ι → EReal} (h : ∀ i, IsReal (f i)) : IsReal (∑ i ∈ s, f i) := by
  classical
  induction s using Finset.induction_on with
  | empty => rw [Finset.sum_empty]; exact isReal_zero
  | insert a s ha ih => rw [Finset.sum_insert ha]; exact (h a).add ih

/-- The word of the number of points. -/
theorem ofBits_points : Ideal.ofBits .f32 0x45000000#32 = ((2048 : ℝ) : EReal) := by
  simp [Ideal.ofBits, Ideal.ieee, -EReal.coe_mul]
  norm_num

/-- The word of minus two. -/
theorem ofBits_neg_two : Ideal.ofBits .f32 0xC0000000#32 = ((-2 : ℝ) : EReal) := by
  simp [Ideal.ofBits, Ideal.ieee, -EReal.coe_mul]
  norm_num

theorem IsReal.mean {a : EReal} (h : IsReal a) : IsReal (Ideal.div a (Ideal.ofBits .f32 0x45000000#32)) := by
  rw [ofBits_points, Ideal.div, if_neg (by norm_num)]
  exact h.mul ⟨(2048 : ℝ)⁻¹, (EReal.coe_inv 2048).symm⟩

theorem IsReal.lin {n k : ℕ} {W : Fin k → Fin n → EReal} {b : Fin k → EReal} {f : Fin n → EReal}
    (hW : ∀ o i, IsReal (W o i)) (hb : ∀ o, IsReal (b o)) (hf : ∀ i, IsReal (f i)) (o : Fin k) : IsReal (lin W b f o) :=
  (IsReal.sum _ fun i => (hf i).mul (hW o i)).add (hb o)

theorem IsReal.lay {n k : ℕ} {W : Fin k → Fin n → EReal} {b : Fin k → EReal} {f : Fin n → EReal}
    (hW : ∀ o i, IsReal (W o i)) (hb : ∀ o, IsReal (b o)) (hf : ∀ i, IsReal (f i)) (o : Fin k) : IsReal (lay W b f o) :=
  (IsReal.lin hW hb hf o).max isReal_zero

/-- Every weight and every bias is a real number. -/
structure Params.Real (P : Params) : Prop where
  W1 : ∀ o i, IsReal (P.W1 o i)
  b1 : ∀ o, IsReal (P.b1 o)
  W2 : ∀ o i, IsReal (P.W2 o i)
  b2 : ∀ o, IsReal (P.b2 o)
  W3 : ∀ o i, IsReal (P.W3 o i)
  b3 : ∀ o, IsReal (P.b3 o)
  W4 : ∀ o i, IsReal (P.W4 o i)
  b4 : ∀ o, IsReal (P.b4 o)
  W5 : ∀ o i, IsReal (P.W5 o i)
  b5 : ∀ o, IsReal (P.b5 o)
  W6 : ∀ o i, IsReal (P.W6 o i)
  b6 : ∀ o, IsReal (P.b6 o)

/-- At real parameters and real features the logits are real. -/
theorem IsReal.logits {P : Params} (hP : P.Real) {F : Fin 2048 → Fin 13 → EReal} (hF : ∀ p q, IsReal (F p q))
    (p : Fin 2048) (j : Fin 2) : IsReal (logits P F p j) := by
  have hh : ∀ p o, IsReal (hidden P (F p) o) := fun p =>
    IsReal.lay hP.W2 hP.b2 (IsReal.lay hP.W1 hP.b1 (hF p))
  have hp : ∀ o, IsReal (pool P F o) := fun o => (IsReal.sum _ fun p => IsReal.lay hP.W3 hP.b3 (hh p) o).mean
  have hj : ∀ i, IsReal (joint P F p i) := fun i => by
    unfold joint
    split
    · exact hh p _
    · exact hp _
  exact IsReal.lin hP.W6 hP.b6 (IsReal.lay hP.W5 hP.b5 (IsReal.lay hP.W4 hP.b4 hj)) j

/-- The greater of two real numbers is real. -/
theorem IsReal.top {l : Fin 2 → EReal} (h : ∀ j, IsReal (l j)) : IsReal (top l) := by
  have e : Cert.PointNet.top l = Max.max (l 0) (l 1) := by
    unfold Cert.PointNet.top
    have : (Finset.univ : Finset (Fin 2)) = {0, 1} := by decide
    rw [this, Finset.fold_insert (by decide), Finset.fold_singleton, max_bot_right]
  rw [e]
  exact (h 0).max (h 1)

/-- Subtracting a real number and then another value is subtracting their sum. -/
theorem sub_add_real (a t l : EReal) (ht : IsReal t) : a - (t + l) = a - t - l := by
  rw [sub_eq_add_neg, EReal.neg_add (Or.inl ht.ne_bot) (Or.inl ht.ne_top), sub_eq_add_neg, sub_eq_add_neg, sub_eq_add_neg,
    add_assoc]

/-- The squared distance of two points as minus twice their product plus the two squared norms. -/
def gap (p q : Fin 3 → EReal) : EReal :=
  Ideal.ofBits .f32 0xC0000000#32 * (∑ e, p e * q e) + ∑ e, p e * p e + ∑ e, q e * q e

theorem IsReal.gap {p q : Fin 3 → EReal} (hp : ∀ e, IsReal (p e)) (hq : ∀ e, IsReal (q e)) : IsReal (gap p q) :=
  ((IsReal.mul ⟨-2, ofBits_neg_two⟩ (IsReal.sum _ fun e => (hp e).mul (hq e))).add
    (IsReal.sum _ fun e => (hp e).mul (hp e))).add (IsReal.sum _ fun e => (hq e).mul (hq e))

/-- At real points the five-term product `[p, |p|², 1] · [-2q, 1, |q|²]` is the squared distance. -/
theorem five_terms (p q : Fin 3 → EReal) (hp : ∀ e, IsReal (p e)) (hq : ∀ e, IsReal (q e)) :
    p 0 * (Ideal.ofBits .f32 0xC0000000#32 * q 0) + p 1 * (Ideal.ofBits .f32 0xC0000000#32 * q 1)
      + p 2 * (Ideal.ofBits .f32 0xC0000000#32 * q 2) + (∑ e, p e * p e) * 1 + 1 * (∑ e, q e * q e) = gap p q := by
  unfold gap
  rw [ofBits_neg_two]
  choose a ha using hp
  choose c hc using hq
  simp only [Fin.sum_univ_three, ha, hc, mul_one, one_mul]
  simp only [← EReal.coe_mul, ← EReal.coe_add]
  refine congrArg _ ?_
  ring

theorem square_nonneg (v : EReal) : 0 ≤ v * v := by
  induction v with
  | bot => rw [EReal.bot_mul_bot]; exact le_top
  | top => rw [EReal.top_mul_top]; exact le_top
  | coe r => rw [← EReal.coe_mul]; exact EReal.coe_nonneg.2 (mul_self_nonneg r)

theorem square_of_not_real {v : EReal} (h : ¬ IsReal v) : v * v = ⊤ := by
  induction v with
  | bot => exact EReal.bot_mul_bot
  | top => exact EReal.top_mul_top
  | coe r => exact absurd ⟨r, rfl⟩ h

/-- A point with an infinite coordinate is at distance `⊤` or `⊥` of every point. -/
theorem gap_of_not_real (p q : Fin 3 → EReal) (h : ∃ e, ¬ IsReal (p e)) : gap p q = ⊤ ∨ gap p q = ⊥ := by
  obtain ⟨e, he⟩ := h
  have hn : ∑ e, p e * p e = ⊤ :=
    top_le_iff.1 (le_of_eq_of_le (square_of_not_real he).symm
      (Finset.single_le_sum (f := fun e => p e * p e) (fun e _ => square_nonneg (p e)) (Finset.mem_univ e)))
  have hc : ∑ e, q e * q e ≠ ⊥ :=
    ne_of_gt (lt_of_lt_of_le EReal.bot_lt_zero (Finset.sum_nonneg fun e _ => square_nonneg (q e)))
  unfold gap
  rw [hn]
  generalize Ideal.ofBits .f32 0xC0000000#32 * (∑ e, p e * q e) = a
  by_cases ha : a = ⊥
  · right; rw [ha, EReal.bot_add, EReal.bot_add]
  · left; rw [EReal.add_top_of_ne_bot ha, EReal.top_add_of_ne_bot hc]

end Cert.PointNet

end
-- ==== Proof.Features.lean ====
/-
  The features of a point: where the ten nearest distances are pairwise different, the points are real, and the kernel's
  row tiles hold the reference's features.
-/
module

public import proofs.«01_k».proof.Proof.Arrays
public import proofs.«01_k».proof.Proof.Select
public import proofs.«01_k».proof.Proof.Dist
public import proofs.«01_k».proof.Proof.Reference
public import proofs.«01_k».proof.Proof.Finite

@[expose] public section

set_option maxRecDepth 16384

noncomputable section

namespace Cert.PointNet

open Cert.KernelIdeal Cert.KernelIdeal.Gen Idealize.ShloMosaic Idealize.ShloMosaic.TcCoe Idealize.SL.Sem

variable (x0 : FVec Ideal S8x2048x3 .f32)

/-- The ten values of every row's top-k decrease strictly. -/
def Apart : Prop := ∀ (n : Fin 8) (r : Fin 2048) (j : ℕ) (h : j < 9),
  (Cert.ReferenceIdeal.Read.val_main_values (F := Ideal) x0 (ix3 n r (⟨j + 1, by omega⟩ : Fin 10) : Cert.ReferenceIdeal.S8x2048x10.Idx) : EReal)
    < Cert.ReferenceIdeal.Read.val_main_values (F := Ideal) x0 (ix3 n r (⟨j, by omega⟩ : Fin 10) : Cert.ReferenceIdeal.S8x2048x10.Idx)

/-- The `j`-th smallest distance of a point, for `j` up to 9. -/
def near (n : Fin 8) (r : Fin 2048) (j : ℕ) : EReal :=
  refDist x0 n r (order (fun i => -(refDist x0 n r i)) ⟨min j 9, by omega⟩)

theorem values_near (n : Fin 8) (r : Fin 2048) (j : Fin 10) :
    (Cert.ReferenceIdeal.Read.val_main_values (F := Ideal) x0 (ix3 n r j : Cert.ReferenceIdeal.S8x2048x10.Idx) : EReal)
      = -(near x0 n r j.val) := by
  rw [ref_values]
  unfold near
  have e : (⟨min j.val 9, by omega⟩ : Fin 2048) = ⟨j.val, by omega⟩ := Fin.ext (by show min j.val 9 = j.val; omega)
  rw [e]

/-- The ten smallest distances are the least of the row. -/
theorem near_least (n : Fin 8) (r : Fin 2048) : TenLeast (refDist x0 n r) (near x0 n r) := by
  refine tenLeast _ (order (fun i => -(refDist x0 n r i))) (order_bijective _) (fun i j h => ?_) _ fun j h => ?_
  · have := order_antitone (fun i => -(refDist x0 n r i)) h
    exact EReal.neg_le_neg_iff.1 this
  · unfold near
    have e : (⟨min j 9, by omega⟩ : Fin 2048) = ⟨j, by omega⟩ := Fin.ext (by show min j 9 = j; omega)
    rw [e]

variable {x0}

/-- They increase strictly. -/
theorem near_lt (ha : Apart x0) (n : Fin 8) (r : Fin 2048) (j : ℕ) (h : j < 9) : near x0 n r j < near x0 n r (j + 1) := by
  have := ha n r j h
  rw [values_near, values_near] at this
  exact EReal.neg_lt_neg_iff.1 this

theorem refDist_gap (n : Fin 8) (r i : Fin 2048) :
    refDist x0 n r i = gap (fun e => x0 (ix3 n r e)) (fun e => x0 (ix3 n i e)) := rfl

/-- Three strictly increasing values are not all infinite. -/
theorem three_values {a b c : EReal} (h : a < b) (h' : b < c) (ha : a = ⊤ ∨ a = ⊥) (hb : b = ⊤ ∨ b = ⊥)
    (hc : c = ⊤ ∨ c = ⊥) : False := by
  rcases hb with rfl | rfl
  · exact absurd h' not_top_lt
  · exact absurd h not_lt_bot

/-- Every coordinate is a real number: a point with an infinite one has at most two different distances. -/
theorem real_points (ha : Apart x0) (n : Fin 8) (r : Fin 2048) (e : Fin 3) : IsReal (x0 (ix3 n r e)) := by
  by_contra h
  have hd : ∀ i, refDist x0 n r i = ⊤ ∨ refDist x0 n r i = ⊥ := fun i => by
    rw [refDist_gap]; exact gap_of_not_real _ _ ⟨e, h⟩
  exact three_values (near_lt ha n r 0 (by omega)) (near_lt ha n r 1 (by omega)) (hd _) (hd _) (hd _)

/-- So is every feature. -/
theorem real_feat (ha : Apart x0) (n : Fin 8) (r : Fin 2048) (q : Fin 13) : IsReal (refFeat x0 n r q) := by
  unfold refFeat
  split
  · exact real_points ha n r _
  · rw [values_near, neg_neg]
    unfold near
    rw [refDist_gap]
    exact IsReal.gap (fun e => real_points ha n r e) fun e => real_points ha n _ e

/-- A row of a tile's distances is the reference's. -/
theorem tile_dist (ha : Apart x0) (xc : Vec Ideal S2x3x2048 .f32) (pts : Vec Ideal S2x1024x3 .f32) (n : Fin 8) (p : Fin 2048)
    (b : Fin 2) (r : Fin 1024) (hx : ∀ k, pts (ix3 b r k) = x0 (ix3 n p k)) (hc : ∀ e i, xc (ix3 b e i) = x0 (ix3 n i e)) :
    row (k0_pay47 (k0_pay2 xc) (k0_pay46 pts)) b r = refDist x0 n p := by
  funext i
  rw [refDist_gap, ← five_terms _ _ (fun e => real_points ha n p e) fun e => real_points ha n i e]
  unfold row
  rw [dist_apply]
  simp only [left_apply, right_apply, hx, hc]
  rw [Fin.sum_univ_five]
  rfl

/-- The entries of a list of ten. -/
theorem ten_get {A : Type} (c : ℕ → A) (j : Fin 10) :
    (![c 0, c 1, c 2, c 3, c 4, c 5, c 6, c 7, c 8, c 9] : Fin 10 → A) j = c j.val := by
  fin_cases j <;> rfl

/-- A row of a tile's features is the reference's. -/
theorem tile_feat (ha : Apart x0) (xc : Vec Ideal S2x3x2048 .f32) (pts : Vec Ideal S2x1024x3 .f32) (n : Fin 8) (p : Fin 2048)
    (b : Fin 2) (r : Fin 1024) (hx : ∀ k, pts (ix3 b r k) = x0 (ix3 n p k)) (hc : ∀ e i, xc (ix3 b e i) = x0 (ix3 n i e))
    (q : Fin 13) : tile (k0_pay2 xc) pts (ix3 b r q) = refFeat x0 n p q := by
  have hrow := tile_dist ha xc pts n p b r hx hc
  have hl := near_least x0 n p
  have hsel : ∀ j, j ≤ 9 → chain23 (cands (k0_pay2 xc) (k0_pay46 pts)) j (ix3 b r 0) = near x0 n p j := fun j hj =>
    selected (k0_pay2 xc) (k0_pay46 pts) b r (near x0 n p) (near_lt ha n p) (by rw [hrow]; exact hl.mem)
      (by rw [hrow]; intro i; exact hl.rest i) (by rw [hrow]; exact hl.below_lt) j hj
  unfold tile refFeat
  rw [feat_apply]
  by_cases h : q.val < 3
  · rw [dif_pos h, dif_pos h]; exact hx _
  · rw [dif_neg h, dif_neg h, values_near, neg_neg]
    have hq := q.isLt
    rw [ten_get (chain23 (cands (k0_pay2 xc) (k0_pay46 pts)))]
    exact hsel (q.val - 3) (by omega)

/-- A block's features are the reference's. -/
theorem feats_eq (ha : Apart x0) (x : Vec Ideal S2x2048x3 .f32) (xc : Vec Ideal S2x3x2048 .f32) (n : Fin 8) (b : Fin 2)
    (hx : ∀ r k, x (ix3 b r k) = x0 (ix3 n r k)) (hc : ∀ e i, xc (ix3 b e i) = x0 (ix3 n i e)) :
    feats x xc b = refFeat x0 n := by
  funext r q
  unfold feats
  by_cases h : r.val < 1024
  · rw [dif_pos h]
    exact tile_feat ha xc (points0 x) n r b ⟨r.val, h⟩ (fun k => (points0_apply x b _ k).trans (hx _ k)) hc q
  · rw [dif_neg h]
    refine tile_feat ha xc (points1 x) n r b ⟨r.val - 1024, by omega⟩ (fun k => (points1_apply x b _ k).trans ?_) hc q
    refine (hx _ k).trans ?_
    have e : (⟨1024 + (r.val - 1024), by omega⟩ : Fin 2048) = r := Fin.ext (by show 1024 + (r.val - 1024) = r.val; omega)
    exact congrArg (fun r : Fin 2048 => x0 (ix3 n r k)) e

end Cert.PointNet

end
-- ==== Proof.Equation.lean ====
/-
  The equation: the array the kernel leaves is the reference's result.
-/
module

public import proofs.«01_k».proof.Proof.Features

@[expose] public section

set_option maxRecDepth 16384

noncomputable section

namespace Cert.PointNet

open Cert.KernelIdeal Cert.KernelIdeal.Gen Idealize.ShloMosaic Idealize.ShloMosaic.TcCoe Idealize.SL.Sem

/-- Where the ten nearest distances are apart and the parameters are real, the kernel's result array is the
    reference's. -/
theorem result_eq (m : (ℓ : Loc nD τ sig) → Buf (Elt Ideal) ℓ) (c : Dev nD)
    (ha : Apart (m ((c : Thread nD τ).loc main_arg0)))
    (hp : (refParams (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))).Real) :
    (dats m 0 c).arrAt 15 cfg0.N = Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have key : ∀ (n : Fin 8) (r : Fin 2048) (j : Fin 2), (dats m 0 c).arrAt 15 cfg0.N (ix3 n r j : S8x2048x2.Idx)
      = Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix3 n r j : Cert.ReferenceIdeal.S8x2048x2.Idx) := by
    intro n r j
    have hn := n.isLt
    let t : Fin cfg0.N := ⟨n.val / 2, by show n.val / 2 < 4; omega⟩
    let b : Fin 2 := ⟨n.val % 2, by omega⟩
    have hnb : n.val = 2 * t.val + b.val := by show n.val = 2 * (n.val / 2) + n.val % 2; omega
    have hf : feats (iblk m c 0 t) (iblk m c 1 t) b = refFeat (m ((c : Thread nD τ).loc main_arg0)) n :=
      feats_eq ha _ _ n b (fun r k => block_x m c t n b hnb r k) fun e i => block_xc m c t n b hnb i e
    rw [result_apply m c t n b hnb r j, block_apply, blockParams_eq, hf, ref_result]
    exact sub_add_real _ _ _ (IsReal.top fun j => IsReal.logits hp (fun p q => real_feat ha n p q) r j)
  funext i
  have hi : i = (ix3 (i 0) (i 1) (i 2) : S8x2048x2.Idx) := funext fun a => by fin_cases a <;> rfl
  rw [hi]
  exact key (i 0) (i 1) (i 2)

end Cert.PointNet

end
-- ==== Proof.Pre.lean ====
/-
  What the precondition says: the ten values of every row's top-k decrease strictly, and every weight and bias is a real
  number.
-/
module

public import proofs.«01_k».proof.Proof.Features
public import proofs.«01_k».proof.Proof.Gen.Pre_ten_nearest_apart
public import Idealize.ShloMosaic.Lib.Pointwise

@[expose] public section

set_option maxRecDepth 16384

noncomputable section

namespace Cert.PointNet

open Cert.Pre_ten_nearest_apart Idealize.ShloMosaic Idealize.ShloMosaic.Tactic

/-- The word of positive infinity. -/
theorem ofBits_infinity : Ideal.ofBits .f32 0x7F800000#32 = ⊤ := by
  simp [Ideal.ofBits, Ideal.ieee]

theorem cmp_olt_one (a b : EReal) : Ideal.cmp .olt a b = 1#1 ↔ a < b := by
  by_cases h : a < b <;> simp [Ideal.cmp, h]

/-- An array whose absolute values all compare below infinity is real. -/
theorem real_array {S : Shape} (a : FVec Ideal S .f32) (hb : S_.BroadcastsInDim S (![] : Fin 0 → Fin S.rank))
    (h : cmpf .olt (Host.absf a) (broadcastInDim S ![] hb (constant (F := Ideal) S_ .f32 0x7F800000#32)) = fun _ => 1#1)
    (i : S.Idx) : IsReal (a i) := by
  have hi : Ideal.cmp .olt (max (a i) (-(a i)) : EReal) (Ideal.ofBits .f32 0x7F800000#32) = 1#1 := congrFun h i
  rw [cmp_olt_one, ofBits_infinity, max_lt_iff] at hi
  refine isReal_of_ne hi.1.ne fun e => ?_
  have h' := hi.2
  rw [e, EReal.neg_bot] at h'
  exact lt_irrefl _ h'

/-- Nine comparisons of a row's neighbouring values. -/
theorem slices_lt (y : FVec Ideal S8x2048x10 .f32) (h1 : S8x2048x10.Slices ![0, 0, 1] S8x2048x9)
    (h0 : S8x2048x10.Slices ![0, 0, 0] S8x2048x9)
    (h : cmpf .olt (extractStridedSlice S8x2048x9 ![0, 0, 1] y h1) (extractStridedSlice S8x2048x9 ![0, 0, 0] y h0) = fun _ => 1#1)
    (n : Fin 8) (r : Fin 2048) (j : ℕ) (hj : j < 9) :
    (y (ix3 n r (⟨j + 1, by omega⟩ : Fin 10) : S8x2048x10.Idx) : EReal) < y (ix3 n r (⟨j, by omega⟩ : Fin 10) : S8x2048x10.Idx) := by
  have e1 : extractStridedSlice S8x2048x9 ![0, 0, 1] y h1 (ix3 n r (⟨j, hj⟩ : Fin 9) : S8x2048x9.Idx)
      = y (ix3 n r (⟨j + 1, by omega⟩ : Fin 10) : S8x2048x10.Idx) := by
    pointwise
    have e : (⟨1 + j, by omega⟩ : Fin 10) = ⟨j + 1, by omega⟩ := Fin.ext (Nat.add_comm 1 j)
    exact congrArg (fun k : Fin 10 => y (ix3 n r k : S8x2048x10.Idx)) e
  have e0 : extractStridedSlice S8x2048x9 ![0, 0, 0] y h0 (ix3 n r (⟨j, hj⟩ : Fin 9) : S8x2048x9.Idx)
      = y (ix3 n r (⟨j, by omega⟩ : Fin 10) : S8x2048x10.Idx) := by
    pointwise
  have hi : Ideal.cmp .olt (extractStridedSlice S8x2048x9 ![0, 0, 1] y h1 (ix3 n r (⟨j, hj⟩ : Fin 9) : S8x2048x9.Idx) : EReal)
      (extractStridedSlice S8x2048x9 ![0, 0, 0] y h0 (ix3 n r (⟨j, hj⟩ : Fin 9) : S8x2048x9.Idx)) = 1#1 :=
    congrFun h (ix3 n r (⟨j, hj⟩ : Fin 9) : S8x2048x9.Idx)
  rw [e1, e0, cmp_olt_one] at hi
  exact hi

variable (x0 : FVec Ideal S8x2048x3 .f32) (x1 : FVec Ideal S20x13 .f32) (x2 : FVec Ideal S20 .f32)
  (x3 : FVec Ideal S100x20 .f32) (x4 : FVec Ideal S100 .f32) (x5 : FVec Ideal S100x100 .f32) (x6 : FVec Ideal S100 .f32)
  (x7 : FVec Ideal S20x200 .f32) (x8 : FVec Ideal S20 .f32) (x9 : FVec Ideal S10x20 .f32) (x10 : FVec Ideal S10 .f32)
  (x11 : FVec Ideal S2x10 .f32) (x12 : FVec Ideal S2 .f32)

/-- Where the precondition's comparisons are all ones, the nearest distances are apart and the parameters are real. -/
theorem pre_read [Cert.Pre_ten_nearest_apart.Facts]
    (h0 : (fn (F := Ideal) x0 x1 x2 x3 x4 x5 x6 x7 x8 x9 x10 x11 x12).1 = (fun _ => 1#1))
    (h1 : (fn (F := Ideal) x0 x1 x2 x3 x4 x5 x6 x7 x8 x9 x10 x11 x12).2.1 = (fun _ => 1#1))
    (h2 : (fn (F := Ideal) x0 x1 x2 x3 x4 x5 x6 x7 x8 x9 x10 x11 x12).2.2.1 = (fun _ => 1#1))
    (h3 : (fn (F := Ideal) x0 x1 x2 x3 x4 x5 x6 x7 x8 x9 x10 x11 x12).2.2.2.1 = (fun _ => 1#1))
    (h4 : (fn (F := Ideal) x0 x1 x2 x3 x4 x5 x6 x7 x8 x9 x10 x11 x12).2.2.2.2.1 = (fun _ => 1#1))
    (h5 : (fn (F := Ideal) x0 x1 x2 x3 x4 x5 x6 x7 x8 x9 x10 x11 x12).2.2.2.2.2.1 = (fun _ => 1#1))
    (h6 : (fn (F := Ideal) x0 x1 x2 x3 x4 x5 x6 x7 x8 x9 x10 x11 x12).2.2.2.2.2.2.1 = (fun _ => 1#1))
    (h7 : (fn (F := Ideal) x0 x1 x2 x3 x4 x5 x6 x7 x8 x9 x10 x11 x12).2.2.2.2.2.2.2.1 = (fun _ => 1#1))
    (h8 : (fn (F := Ideal) x0 x1 x2 x3 x4 x5 x6 x7 x8 x9 x10 x11 x12).2.2.2.2.2.2.2.2.1 = (fun _ => 1#1))
    (h9 : (fn (F := Ideal) x0 x1 x2 x3 x4 x5 x6 x7 x8 x9 x10 x11 x12).2.2.2.2.2.2.2.2.2.1 = (fun _ => 1#1))
    (h10 : (fn (F := Ideal) x0 x1 x2 x3 x4 x5 x6 x7 x8 x9 x10 x11 x12).2.2.2.2.2.2.2.2.2.2.1 = (fun _ => 1#1))
    (h11 : (fn (F := Ideal) x0 x1 x2 x3 x4 x5 x6 x7 x8 x9 x10 x11 x12).2.2.2.2.2.2.2.2.2.2.2.1 = (fun _ => 1#1))
    (h12 : (fn (F := Ideal) x0 x1 x2 x3 x4 x5 x6 x7 x8 x9 x10 x11 x12).2.2.2.2.2.2.2.2.2.2.2.2 = (fun _ => 1#1)) :
    Apart x0 ∧ (refParams x1 x2 x3 x4 x5 x6 x7 x8 x9 x10 x11 x12).Real := by
  refine ⟨slices_lt (Cert.ReferenceIdeal.Read.val_main_values (F := Ideal) x0) Facts.slices_S8x2048x10_S8x2048x9_0_0_1 Facts.slices_S8x2048x10_S8x2048x9_0_0_0 h0, ?_⟩
  exact ⟨fun o i => real_array x1 _ h1 (ix2 o i), fun o => real_array x2 _ h2 (ix1 o),
    fun o i => real_array x3 _ h3 (ix2 o i), fun o => real_array x4 _ h4 (ix1 o),
    fun o i => real_array x5 _ h5 (ix2 o i), fun o => real_array x6 _ h6 (ix1 o),
    fun o i => real_array x7 _ h7 (ix2 o i), fun o => real_array x8 _ h8 (ix1 o),
    fun o i => real_array x9 _ h9 (ix2 o i), fun o => real_array x10 _ h10 (ix1 o),
    fun o i => real_array x11 _ h11 (ix2 o i), fun o => real_array x12 _ h12 (ix1 o)⟩

end Cert.PointNet

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.Pre_ten_nearest_apart
public import proofs.«01_k».proof.Proof.Gen.ReferenceIdeal.Run
public import proofs.«01_k».proof.Proof.Gen.ReferenceIdeal.Read
public import proofs.«01_k».proof.Proof.Equation
public import proofs.«01_k».proof.Proof.Pre
public import Idealize.ShloMosaic.Adequacy
public import Idealize.ShloMosaic.Init

@[expose] public section

set_option maxRecDepth 16384

noncomputable section

namespace Cert.Proof

open Idealize.ShloMosaic Idealize.SL.Sem

/-- The kernel terminates without fault, leaves its arguments unchanged and every semaphore counter at zero. -/
theorem frame_kernel : Cert.quiescent_Kernel := fun m ρ _ => Cert.Kernel.Gen.frame m ρ

/-- So does the kernel over the extended reals. -/
theorem frame_ideal : Cert.quiescent_KernelIdeal := fun m ρ _ => Cert.KernelIdeal.Gen.frame m ρ

/-- In particular under the precondition. -/
theorem frame_ideal_apart : Cert.quiescent_KernelIdeal_pre_ten_nearest_apart := fun m ρ _ => Cert.KernelIdeal.Gen.frame m ρ

/-- The reference over the extended reals terminates with its arguments unchanged and its counters at zero: it declares
    no semaphore. -/
theorem frame_reference : Cert.quiescent_ReferenceIdeal := by
  intro m g _
  exact (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- In particular under the precondition. -/
theorem frame_reference_apart : Cert.quiescent_ReferenceIdeal_pre_ten_nearest_apart := fun m g _ => frame_reference m g trivial

/-- Over the extended reals, where the ten nearest distances of every point are pairwise different and the parameters are
    finite, the kernel and the reference end with the same result. -/
theorem algebraic : Cert.algebraic_KernelIdeal_ReferenceIdeal_pre_ten_nearest_apart := by
  intro m g m' g' hpre hargs
  refine ⟨fun c => (Cert.KernelIdeal.Gen.dats (F := Ideal) m 0 c).arrAt 15 Cert.KernelIdeal.cfg0.N,
    Cert.KernelIdeal.Value.run_blocks (F := Ideal) m g, ?_⟩
  refine (θ_run Cert.ReferenceIdeal.defs _ _).mono (fun r h c => ⟨?_, (h c).2⟩)
    (Cert.ReferenceIdeal.Value.run (F := Ideal) m' g')
  obtain ⟨e0, e1, e2, e3, e4, e5, e6, e7, e8, e9, e10, e11, e12⟩ := hargs c
  obtain ⟨p0, p1, p2, p3, p4, p5, p6, p7, p8, p9, p10, p11, p12⟩ := hpre c
  obtain ⟨hapart, hreal⟩ := Cert.PointNet.pre_read _ _ _ _ _ _ _ _ _ _ _ _ _ p0 p1 p2 p3 p4 p5 p6 p7 p8 p9 p10 p11 p12
  refine ((h c).1.trans (Cert.ReferenceIdeal.Read.val_main_v62_eq m' c)).trans ?_
  rw [e0, e1, e2, e3, e4, e5, e6, e7, e8, e9, e10, e11, e12]
  exact (Cert.PointNet.result_eq m c hapart hreal).symm

/-- All the claims. -/
theorem claim : Cert.Claim := ⟨Cert.Kernel.Gen.facts, Cert.KernelIdeal.Gen.facts, Cert.ReferenceIdeal.Gen.facts,
  Cert.Pre_ten_nearest_apart.Gen.facts, frame_kernel, frame_ideal, frame_ideal_apart, frame_reference,
  frame_reference_apart, trivial, algebraic⟩

end Cert.Proof

end
